-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S2x512x1024 : Shape := ⟨3, ![2, 512, 1024]⟩
abbrev S7x256x4096 : Shape := ⟨3, ![7, 256, 4096]⟩
abbrev S2x256x1024 : Shape := ⟨3, ![2, 256, 1024]⟩
abbrev S7x2 : Shape := ⟨2, ![7, 2]⟩
abbrev S2 : Shape := ⟨1, ![2]⟩
abbrev S_ : Shape := ⟨0, ![]⟩
abbrev S1x1 : Shape := ⟨2, ![1, 1]⟩
abbrev S1x128x4096 : Shape := ⟨3, ![1, 128, 4096]⟩
abbrev S128x4096 : Shape := ⟨2, ![128, 4096]⟩
abbrev S1x512x1024 : Shape := ⟨3, ![1, 512, 1024]⟩
abbrev S512x1024 : Shape := ⟨2, ![512, 1024]⟩
abbrev S256x4096 : Shape := ⟨2, ![256, 4096]⟩
abbrev S256x1024 : Shape := ⟨2, ![256, 1024]⟩
abbrev S1x256x1024 : Shape := ⟨3, ![1, 256, 1024]⟩
abbrev S1x256x4096 : Shape := ⟨3, ![1, 256, 4096]⟩

abbrev nBuf : Space → Nat
  | .hbm => 6
  | .vmem => 6
  | .smem => 2
  | _ => 0

abbrev bufTy : (tb : Table) → Fin (tcTables nBuf tb) → BufTy
  | .hbm, ⟨0, _⟩ => ⟨S512x4096, .fp8e5m2⟩
  | .hbm, ⟨1, _⟩ => ⟨S4096x1024, .f32⟩
  | .hbm, ⟨2, _⟩ => ⟨S1, .f32⟩
  | .hbm, ⟨3, _⟩ => ⟨S1, .f32⟩
  | .hbm, ⟨4, _⟩ => ⟨S4096x1024, .bf16⟩
  | .hbm, ⟨5, _⟩ => ⟨S4096x1024, .f32⟩
  | .local _ .vmem, ⟨0, _⟩ => ⟨S512x4096, .fp8e5m2⟩
  | .local _ .vmem, ⟨1, _⟩ => ⟨S4096x1024, .bf16⟩
  | .local _ .vmem, ⟨2, _⟩ => ⟨S2x512x1024, .f32⟩
  | .local _ .vmem, ⟨3, _⟩ => ⟨S7x256x4096, .fp8e5m2⟩
  | .local _ .vmem, ⟨4, _⟩ => ⟨S7x256x4096, .fp8e5m2⟩
  | .local _ .vmem, ⟨5, _⟩ => ⟨S2x256x1024, .bf16⟩
  | .local _ .smem, ⟨0, _⟩ => ⟨S1, .f32⟩
  | .local _ .smem, ⟨1, _⟩ => ⟨S1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v22 : BitVec 32 := Scalar.muli v7 c1_i32_26
  let v23 : BitVec 32 := Scalar.addi c0_i32_27 v22
  v23.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_36 : BitVec 32 := 1#32
  let v31 : BitVec 32 := Scalar.muli v5 c1_i32_36
  let v32 : BitVec 32 := Scalar.addi c0_i32_37 v31
  v32.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_46 : BitVec 32 := 1#32
  let v40 : BitVec 32 := Scalar.muli v5 c1_i32_46
  let v41 : BitVec 32 := Scalar.addi c0_i32_47 v40
  v41.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_175 : BitVec 32 := 512#32
  let v182 : BitVec 32 := Scalar.muli v2 c512_i32_175
  let c0_i32_187 : BitVec 32 := 0#32
  ![v182.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_191 : BitVec 32 := 512#32
  let v209 : BitVec 32 := Scalar.muli v2 c512_i32_191
  let c256_i32_192 : BitVec 32 := 256#32
  let v210 : BitVec 32 := Scalar.addi v209 c256_i32_192
  let c0_i32_205 : BitVec 32 := 0#32
  ![v210.toNat, 0]
def k0_dev7 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_225 : BitVec 32 := 1#32
  let v242 : BitVec 32 := Scalar.muli v7 c1_i32_225
  let v243 : BitVec 32 := Scalar.addi c0_i32_226 v242
  v243.toNat
def k0_dev8 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_248 : BitVec 32 := 1#32
  let v259 : BitVec 32 := Scalar.muli v5 c1_i32_248
  let v260 : BitVec 32 := Scalar.addi c0_i32_249 v259
  v260.toNat
def k0_dev9 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_271 : BitVec 32 := 1#32
  let v276 : BitVec 32 := Scalar.muli v7 c1_i32_271
  let v277 : BitVec 32 := Scalar.addi c0_i32_272 v276
  v277.toNat
def k0_dev10 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_294 : BitVec 32 := 1#32
  let v293 : BitVec 32 := Scalar.muli v5 c1_i32_294
  let v294 : BitVec 32 := Scalar.addi c0_i32_295 v293
  v294.toNat
def k0_off3 (d0 : Dev nD) (c1_i32_300 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v303 : BitVec 32 := Scalar.subi v2 c1_i32_300
  let c8_i32_301 : BitVec 32 := 8#32
  let v304 : BitVec 32 := Scalar.addi v303 c8_i32_301
  let c8_i32_302 : BitVec 32 := 8#32
  let v305 : BitVec 32 := Scalar.remsi v304 c8_i32_302
  let c512_i32_306 : BitVec 32 := 512#32
  let v308 : BitVec 32 := Scalar.muli v305 c512_i32_306
  let c0_i32_324 : BitVec 32 := 0#32
  ![v308.toNat, 0]
def k0_off4 (d0 : Dev nD) (c1_i32_327 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v338 : BitVec 32 := Scalar.addi v2 c1_i32_327
  let c8_i32_328 : BitVec 32 := 8#32
  let v339 : BitVec 32 := Scalar.remsi v338 c8_i32_328
  let c512_i32_332 : BitVec 32 := 512#32
  let v342 : BitVec 32 := Scalar.muli v339 c512_i32_332
  let c256_i32_333 : BitVec 32 := 256#32
  let v343 : BitVec 32 := Scalar.addi v342 c256_i32_333
  let c0_i32_351 : BitVec 32 := 0#32
  ![v343.toNat, 0]
def k0_dev11 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_372 : BitVec 32 := 1#32
  let v381 : BitVec 32 := Scalar.muli v7 c1_i32_372
  let v382 : BitVec 32 := Scalar.addi c0_i32_373 v381
  v382.toNat
def k0_dev12 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_396 : BitVec 32 := 1#32
  let v399 : BitVec 32 := Scalar.muli v5 c1_i32_396
  let v400 : BitVec 32 := Scalar.addi c0_i32_397 v399
  v400.toNat
def k0_dev13 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_420 : BitVec 32 := 1#32
  let v417 : BitVec 32 := Scalar.muli v7 c1_i32_420
  let v418 : BitVec 32 := Scalar.addi c0_i32_421 v417
  v418.toNat
def k0_dev14 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_444 : BitVec 32 := 1#32
  let v435 : BitVec 32 := Scalar.muli v5 c1_i32_444
  let v436 : BitVec 32 := Scalar.addi c0_i32_445 v435
  v436.toNat
def k0_dev15 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_521 : BitVec 32 := 1#32
  let v523 : BitVec 32 := Scalar.muli v7 c1_i32_521
  let v524 : BitVec 32 := Scalar.addi c0_i32_522 v523
  v524.toNat
def k0_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_545 : BitVec 32 := 1#32
  let v541 : BitVec 32 := Scalar.muli v5 c1_i32_545
  let v542 : BitVec 32 := Scalar.addi c0_i32_546 v541
  v542.toNat
def k0_dev17 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_569 : BitVec 32 := 1#32
  let v559 : BitVec 32 := Scalar.muli v7 c1_i32_569
  let v560 : BitVec 32 := Scalar.addi c0_i32_570 v559
  v560.toNat
def k0_dev18 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_593 : BitVec 32 := 1#32
  let v577 : BitVec 32 := Scalar.muli v5 c1_i32_593
  let v578 : BitVec 32 := Scalar.addi c0_i32_594 v577
  v578.toNat
def k0_dev19 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_669 : BitVec 32 := 1#32
  let v665 : BitVec 32 := Scalar.muli v7 c1_i32_669
  let v666 : BitVec 32 := Scalar.addi c0_i32_670 v665
  v666.toNat
def k0_dev20 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_693 : BitVec 32 := 1#32
  let v683 : BitVec 32 := Scalar.muli v5 c1_i32_693
  let v684 : BitVec 32 := Scalar.addi c0_i32_694 v683
  v684.toNat
def k0_dev21 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_717 : BitVec 32 := 1#32
  let v701 : BitVec 32 := Scalar.muli v7 c1_i32_717
  let v702 : BitVec 32 := Scalar.addi c0_i32_718 v701
  v702.toNat
def k0_dev22 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_741 : BitVec 32 := 1#32
  let v719 : BitVec 32 := Scalar.muli v5 c1_i32_741
  let v720 : BitVec 32 := Scalar.addi c0_i32_742 v719
  v720.toNat
def k0_dev23 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_817 : BitVec 32 := 1#32
  let v807 : BitVec 32 := Scalar.muli v7 c1_i32_817
  let v808 : BitVec 32 := Scalar.addi c0_i32_818 v807
  v808.toNat
def k0_dev24 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_841 : BitVec 32 := 1#32
  let v825 : BitVec 32 := Scalar.muli v5 c1_i32_841
  let v826 : BitVec 32 := Scalar.addi c0_i32_842 v825
  v826.toNat
def k0_dev25 (d0 : Dev nD) : Nat :=
  let c0_i32_866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_865 : BitVec 32 := 1#32
  let v843 : BitVec 32 := Scalar.muli v7 c1_i32_865
  let v844 : BitVec 32 := Scalar.addi c0_i32_866 v843
  v844.toNat
def k0_dev26 (d0 : Dev nD) : Nat :=
  let c0_i32_890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_889 : BitVec 32 := 1#32
  let v861 : BitVec 32 := Scalar.muli v5 c1_i32_889
  let v862 : BitVec 32 := Scalar.addi c0_i32_890 v861
  v862.toNat
def k0_dev27 (d0 : Dev nD) : Nat :=
  let c0_i32_966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_965 : BitVec 32 := 1#32
  let v949 : BitVec 32 := Scalar.muli v7 c1_i32_965
  let v950 : BitVec 32 := Scalar.addi c0_i32_966 v949
  v950.toNat
def k0_dev28 (d0 : Dev nD) : Nat :=
  let c0_i32_990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_989 : BitVec 32 := 1#32
  let v967 : BitVec 32 := Scalar.muli v5 c1_i32_989
  let v968 : BitVec 32 := Scalar.addi c0_i32_990 v967
  v968.toNat
def k0_dev29 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1013 : BitVec 32 := 1#32
  let v985 : BitVec 32 := Scalar.muli v7 c1_i32_1013
  let v986 : BitVec 32 := Scalar.addi c0_i32_1014 v985
  v986.toNat
def k0_dev30 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1037 : BitVec 32 := 1#32
  let v1003 : BitVec 32 := Scalar.muli v5 c1_i32_1037
  let v1004 : BitVec 32 := Scalar.addi c0_i32_1038 v1003
  v1004.toNat
abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .f32⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Model.lean ====
/- The kernel's program written once over its indices: direction, hop, half of a chunk, slice of the weights,
   block of the result. The printed program is this one by unfolding (`body_eq`). -/
module

public import proofs.«01_k».proof.Proof.Gen.KernelIdeal.Skeleton
public import proofs.«01_k».proof.Proof.Gen.KernelIdeal.Points

@[expose] public section

noncomputable section

namespace Cert.KernelIdeal.Proof

open Idealize.ShloMosaic Idealize.ShloMosaic.TcCoe
open Idealize.SL Idealize.SL.Sem
open Cert.KernelIdeal.Gen

variable {F : FTy → Type} [FloatOps F]

/-- A piece of kernel program. -/
abbrev Pg (F : FTy → Type) : Type → Type 1 := Prog (TpuEff nD τ sig (Elt F) Λ₀ .tc)

/-- Run `f 0`, …, `f (n - 1)` in order. -/
def forP : (n : ℕ) → (Fin n → Pg F PUnit) → Pg F PUnit
  | 0, _ => pure ⟨⟩
  | n + 1, f => f 0 >>= fun _ => forP n fun i => f i.succ

/-! ## Buffers -/

abbrev xM : Memref sig .tc .vmem S512x4096 .fp8e5m2 := Memref.whole cc0_stg0_0
abbrev sxM : Memref sig .tc .smem S1 .f32 := Memref.whole cc0_stg1_0
abbrev swM : Memref sig .tc .smem S1 .f32 := Memref.whole cc0_stg2_0
abbrev wM : Memref sig .tc .hbm S4096x1024 .f32 := Memref.whole main_arg1
abbrev oM : Memref sig .tc .hbm S4096x1024 .bf16 := Memref.whole main_v1
abbrev wbM : Memref sig .tc .vmem S4096x1024 .bf16 := Memref.whole cc0_scratch0
abbrev bufM : Memref sig .tc .vmem S2x512x1024 .f32 := Memref.whole cc0_scratch1
abbrev stM : Memref sig .tc .vmem S2x256x1024 .bf16 := Memref.whole cc0_scratch4

/-- The receive buffer of a direction: 0 is the one filled from the left neighbour, 1 from the right. -/
abbrev comM : Fin 2 → Memref sig .tc .vmem S7x256x4096 .fp8e5m2
  | 0 => Memref.whole cc0_scratch2
  | 1 => Memref.whole cc0_scratch3
theorem comM_whole : ∀ d, (comM d).IsWhole
  | 0 => Memref.isWhole_whole _
  | 1 => Memref.isWhole_whole _

/-! ## Views -/

theorem pieceInb : ∀ (h : Fin 7) (s : Fin 2), ∀ a, (![h.val, 128 * s.val, 0] : Fin 3 → Nat) a + S1x128x4096.size a ≤ S7x256x4096.size a := by decide
theorem pieceWords : ∀ (h : Fin 7) (s : Fin 2), (Rect.unit (s := S7x256x4096) ![h.val, 128 * s.val, 0] S1x128x4096.size (pieceInb h s)).WholeWords (EltTy.packing .fp8e5m2) := by decide
theorem xPieceInb : ∀ (d s : Fin 2), ∀ a, (![256 * d.val + 128 * s.val, 0] : Fin 2 → Nat) a + S128x4096.size a ≤ S512x4096.size a := by decide
theorem xPieceWords : ∀ (d s : Fin 2), (Rect.unit (s := S512x4096) ![256 * d.val + 128 * s.val, 0] S128x4096.size (xPieceInb d s)).WholeWords (EltTy.packing .fp8e5m2) := by decide

/-- Rows `128 s …` of slot `h` of a direction's receive buffer. -/
abbrev piece (d : Fin 2) (h : Fin 7) (s : Fin 2) : Memref sig .tc .vmem S128x4096 .fp8e5m2 :=
  ((comM d).slice (Rect.unit (s := S7x256x4096) ![h.val, 128 * s.val, 0] S1x128x4096.size (pieceInb h s)) (fun _ => rfl)).squeeze S128x4096 squeezes_S1x128x4096_S128x4096
theorem piece_words (d : Fin 2) (h : Fin 7) (s : Fin 2) : (piece d h s).view.WordExact :=
  ((comM_whole d).wordExact_slice rfl _ (pieceWords h s)).reshape _ _

/-- Rows `256 d + 128 s …` of the device's own block of x. -/
abbrev xPiece (d s : Fin 2) : Memref sig .tc .vmem S128x4096 .fp8e5m2 :=
  xM.slice (Rect.unit (s := S512x4096) ![256 * d.val + 128 * s.val, 0] S128x4096.size (xPieceInb d s)) (fun _ => rfl)
theorem xPiece_words (d s : Fin 2) : (xPiece d s).view.WordExact :=
  (Memref.isWhole_whole _).wordExact_slice rfl _ (xPieceWords d s)

/-- What hop `h` sends: at hop 0 the device's own rows, after that the slot received at the hop before. -/
abbrev srcP (d : Fin 2) : Fin 7 → Fin 2 → Memref sig .tc .vmem S128x4096 .fp8e5m2
  | ⟨0, _⟩, s => xPiece d s
  | ⟨h + 1, hh⟩, s => piece d ⟨h, by omega⟩ s
theorem srcP_words (d : Fin 2) : ∀ h s, (srcP d h s).view.WordExact
  | ⟨0, _⟩, s => xPiece_words d s
  | ⟨h + 1, hh⟩, s => piece_words d ⟨h, by omega⟩ s

/-! ## Semaphores -/

abbrev barS := (SemArray.scalar (sig.barrier 0 rfl) : Sems sig S_).sem
theorem semInb : ∀ (h : Fin 7) (s : Fin 2), ∀ a, (![h.val, s.val] : Fin 2 → Nat) a + S1x1.size a ≤ S7x2.size a := by decide
theorem sem2Inb : ∀ (k : Fin 2), ∀ a, (![k.val] : Fin 1 → Nat) a + S1.size a ≤ S2.size a := by decide
abbrev sendA : Fin 2 → DmaSems sig S7x2
  | 0 => cc0_scratch5
  | 1 => cc0_scratch7
abbrev recvA : Fin 2 → DmaSems sig S7x2
  | 0 => cc0_scratch6
  | 1 => cc0_scratch8
abbrev sendS (d : Fin 2) (h : Fin 7) (s : Fin 2) : DmaSem sig :=
  (((sendA d).slice (Rect.unit (s := S7x2) ![h.val, s.val] S1x1.size (semInb h s))).squeeze S_ squeezes_S1x1_S_).sem
abbrev recvS (d : Fin 2) (h : Fin 7) (s : Fin 2) : DmaSem sig :=
  (((recvA d).slice (Rect.unit (s := S7x2) ![h.val, s.val] S1x1.size (semInb h s))).squeeze S_ squeezes_S1x1_S_).sem
abbrev wS (k : Fin 2) : DmaSem sig :=
  ((cc0_scratch9.slice (Rect.unit (s := S2) ![k.val] S1.size (sem2Inb k))).squeeze S_ squeezes_S1_S_).sem
abbrev oS (k : Fin 2) : DmaSem sig :=
  ((cc0_scratch10.slice (Rect.unit (s := S2) ![k.val] S1.size (sem2Inb k))).squeeze S_ squeezes_S1_S_).sem

/-! ## The program -/

/-- The neighbour a direction sends to, as the kernel computes it. -/
abbrev tgt (c : Dev nD) : Fin 2 → Dev nD
  | 0 => ⟨k0_dev2 c, k0_dev2_lt c⟩
  | 1 => ⟨k0_dev1 c, k0_dev1_lt c⟩

def sendP (c : Dev nD) (d : Fin 2) (h : Fin 7) (s : Fin 2) : Pg F PUnit :=
  Prog.lift (.enqueueDma (srcP d h s) (.remote (Dev.tc (tgt c d)) (piece d h s) (.dma (sendS d h s))) (.dma (recvS d h s))
    (srcP_words d h s) (piece_words d h s) ⟨⟨rfl, Or.inl rfl⟩, trivial⟩)

def recvP (d : Fin 2) (h : Fin 7) (s : Fin 2) : Pg F PUnit :=
  Prog.lift (.waitDma2 (recvS d h s) (srcP d h s) (piece d h s) (srcP_words d h s) (piece_words d h s))

def sentP (d : Fin 2) (h : Fin 7) (s : Fin 2) : Pg F PUnit :=
  Prog.lift (.waitDma2 (sendS d h s) (piece d h s) (srcP d h s) (piece_words d h s) (srcP_words d h s))

theorem wInb : ∀ (i : Fin 8), ∀ a, (![512 * i.val, 0] : Fin 2 → Nat) a + S512x1024.size a ≤ S4096x1024.size a := by decide
theorem bufInb : ∀ (k : Fin 2), ∀ a, (![k.val, 0, 0] : Fin 3 → Nat) a + S1x512x1024.size a ≤ S2x512x1024.size a := by decide
theorem wPacked : ∀ (i : Fin 8), (Rect.unit (s := S4096x1024) ![512 * i.val, 0] S512x1024.size (wInb i)).PackedRows (EltTy.packing .bf16) := by decide
/-- The slot a slice of the weights, or a block of the result, passes through. -/
abbrev slot {n : ℕ} (i : Fin n) : Fin 2 := ⟨i.val % 2, Nat.mod_lt _ (by decide)⟩
abbrev wV (i : Fin 8) : Memref sig .tc .hbm S512x1024 .f32 :=
  wM.slice (Rect.unit (s := S4096x1024) ![512 * i.val, 0] S512x1024.size (wInb i)) (fun _ => rfl)
abbrev bufR (k : Fin 2) : Rect S2x512x1024 := Rect.unit (s := S2x512x1024) ![k.val, 0, 0] S1x512x1024.size (bufInb k)
abbrev bufV (k : Fin 2) : Memref sig .tc .vmem S512x1024 .f32 := (bufM.slice (bufR k) (fun _ => rfl)).squeeze S512x1024 squeezes_S1x512x1024_S512x1024
abbrev wbR (i : Fin 8) : Rect S4096x1024 := Rect.unit (s := S4096x1024) ![512 * i.val, 0] S512x1024.size (wInb i)

def wStartP (i : Fin 8) : Pg F PUnit :=
  Prog.lift (.enqueueDma (wV i) (.here (bufV (slot i))) (.dma (wS (slot i))) (View.wordExact_bits rfl) ((View.wordExact_bits rfl).reshape _ _) ⟨Or.inl rfl, trivial⟩)

/-- A slice of the weights, narrowed. -/
def wPay (v : Vec F S1x512x1024 .f32) : FVec F S512x1024 .bf16 :=
  shapeCast S512x1024 (truncf .bf16 (shapeCast S512x1024 v shapeCasts_S1x512x1024_S512x1024) bitsLt_bf16_f32) shapeCasts_S512x1024_S512x1024

def wP (i : Fin 8) : Pg F PUnit := do
  Prog.lift (.waitDma2 (wS (slot i)) (wV i) (bufV (slot i)) (View.wordExact_bits rfl) ((View.wordExact_bits rfl).reshape _ _))
  let v : Vec F S1x512x1024 .f32 ← Prog.lift (.load bufM (bufR (slot i)).toLoadRect (View.loadsAt_vmem h_S1x512x1024))
  let _ : Vec F S512x1024 .bf16 ← Prog.lift (.load wbM (wbR i).toLoadRect (View.loadsAt_vmem h_S512x1024))
  Prog.lift (.store wbM (wbR i) (wPay v) Finset.univ (View.stores_vmem h_S512x1024 ((Memref.isWhole_whole _).storeExact_slice rfl _ (wPacked i)) (fun _ => rfl)) (.inl rfl))
  if h : i.val + 2 < 8 then wStartP ⟨i.val + 2, h⟩ else pure ⟨⟩

/-- `y / (1 + exp (-clip y))` narrowed, of `y = (x · w) * s`: one block of the result. -/
def blockPay (s : F .f32) (x : FVec F S256x4096 .fp8e5m2) (w : Vec F S4096x1024 .bf16) : FVec F S256x1024 .bf16 :=
  have y : FVec F S256x1024 .f32 := mulf (matmul dot_S256x4096_S4096x1024_S256x1024_1_0_0_1_n_n none (extf .bf16 x bitsLt_fp8e5m2_bf16) w
    (constant S256x1024 .f32 0x00000000#32)) (broadcast S256x1024 s)
  have z : FVec F S256x1024 .f32 := minimumf (broadcast S256x1024 (Scalar.ofBits .f32 0x42700000#32)) (maximumf (broadcast S256x1024 (Scalar.ofBits .f32 0xC2700000#32)) y)
  truncf .bf16 (divf y (addf (broadcast S256x1024 (Scalar.ofBits .f32 0x3F800000#32)) (exp (subf (broadcast S256x1024 (Scalar.ofBits .f32 0x00000000#32)) z)))) bitsLt_bf16_f32

/-- Where a block of the result goes: direction `d`, hop `h` (0 is the device's own block). -/
abbrev outOff (c : Dev nD) : Fin 2 → Fin 8 → Fin 2 → Nat
  | 0, ⟨0, _⟩ => k0_off1 c
  | 0, ⟨h + 1, _⟩ => k0_off3 c (BitVec.ofNat 32 (1 + h))
  | 1, ⟨0, _⟩ => k0_off2 c
  | 1, ⟨h + 1, _⟩ => k0_off4 c (BitVec.ofNat 32 (1 + h))
theorem outInb (c : Dev nD) : ∀ (d : Fin 2) (h : Fin 8), ∀ a, outOff c d h a + S256x1024.size a ≤ S4096x1024.size a
  | 0, ⟨0, _⟩ => k0_off1_inb c
  | 0, ⟨h + 1, hh⟩ => k0_off3_inb c ⟨h, by omega⟩
  | 1, ⟨0, _⟩ => k0_off2_inb c
  | 1, ⟨h + 1, hh⟩ => k0_off4_inb c ⟨h, by omega⟩
theorem outWords (c : Dev nD) : ∀ (d : Fin 2) (h : Fin 8), (Rect.unit (s := S4096x1024) (outOff c d h) S256x1024.size (outInb c d h)).WholeWords (EltTy.packing .bf16)
  | 0, ⟨0, _⟩ => k0_off1_wordsbf16 c
  | 0, ⟨h + 1, hh⟩ => k0_off3_wordsbf16 c ⟨h, by omega⟩
  | 1, ⟨0, _⟩ => k0_off2_wordsbf16 c
  | 1, ⟨h + 1, hh⟩ => k0_off4_wordsbf16 c ⟨h, by omega⟩
abbrev outV (c : Dev nD) (d : Fin 2) (h : Fin 8) : Memref sig .tc .hbm S256x1024 .bf16 :=
  oM.slice (Rect.unit (s := S4096x1024) (outOff c d h) S256x1024.size (outInb c d h)) (fun _ => rfl)
theorem outV_words (c : Dev nD) (d : Fin 2) (h : Fin 8) : (outV c d h).view.WordExact :=
  (Memref.isWhole_whole _).wordExact_slice rfl _ (outWords c d h)

theorem stInb : ∀ (k : Fin 2), ∀ a, (![k.val, 0, 0] : Fin 3 → Nat) a + S1x256x1024.size a ≤ S2x256x1024.size a := by decide
theorem stWords : ∀ (k : Fin 2), (Rect.unit (s := S2x256x1024) ![k.val, 0, 0] S1x256x1024.size (stInb k)).WholeWords (EltTy.packing .bf16) := by decide
theorem stPacked : ∀ (k : Fin 2), (Rect.unit (s := S2x256x1024) ![k.val, 0, 0] S1x256x1024.size (stInb k)).PackedRows (EltTy.packing .bf16) := by decide
abbrev stR (k : Fin 2) : Rect S2x256x1024 := Rect.unit (s := S2x256x1024) ![k.val, 0, 0] S1x256x1024.size (stInb k)
abbrev stV (k : Fin 2) : Memref sig .tc .vmem S256x1024 .bf16 := (stM.slice (stR k) (fun _ => rfl)).squeeze S256x1024 squeezes_S1x256x1024_S256x1024
theorem stV_words (k : Fin 2) : (stV k).view.WordExact := ((Memref.isWhole_whole _).wordExact_slice rfl _ (stWords k)).reshape _ _

theorem xHalfInb : ∀ (d : Fin 2), ∀ a, (![256 * d.val, 0] : Fin 2 → Nat) a + S256x4096.size a ≤ S512x4096.size a := by decide
theorem chunkInb : ∀ (h : Fin 7), ∀ a, (![h.val, 0, 0] : Fin 3 → Nat) a + S1x256x4096.size a ≤ S7x256x4096.size a := by decide
abbrev xHalfR (d : Fin 2) : Rect S512x4096 := Rect.unit (s := S512x4096) ![256 * d.val, 0] S256x4096.size (xHalfInb d)
abbrev chunkR (h : Fin 7) : Rect S7x256x4096 := Rect.unit (s := S7x256x4096) ![h.val, 0, 0] S1x256x4096.size (chunkInb h)

/-- Read the chunk a block is made of: half of the device's own rows, or what the hop before received. -/
def chunkP (d : Fin 2) : Fin 8 → Pg F (FVec F S256x4096 .fp8e5m2)
  | ⟨0, _⟩ => do
    let v : Vec F S256x4096 .fp8e5m2 ← Prog.lift (.load xM (xHalfR d).toLoadRect (View.loadsAt_vmem h_S256x4096))
    pure (shapeCast S256x4096 v shapeCasts_S256x4096_S256x4096)
  | ⟨h + 1, hh⟩ => do
    let v : Vec F S1x256x4096 .fp8e5m2 ← Prog.lift (.load (comM d) (chunkR ⟨h, by omega⟩).toLoadRect (View.loadsAt_vmem h_S1x256x4096))
    pure (shapeCast S256x4096 v shapeCasts_S1x256x4096_S256x4096)

def outStartP (c : Dev nD) (d : Fin 2) (h : Fin 8) : Pg F PUnit :=
  Prog.lift (.enqueueDma (stV d) (.here (outV c d h)) (.dma (oS d)) (stV_words d) (outV_words c d h) ⟨Or.inl rfl, trivial⟩)
def outWaitP (c : Dev nD) (d : Fin 2) (h : Fin 8) : Pg F PUnit :=
  Prog.lift (.waitDma2 (oS d) (stV d) (outV c d h) (stV_words d) (outV_words c d h))

/-- One block of the result: computed, staged in its direction's slot once the copy before is done, and its copy started. -/
def gemmP (c : Dev nD) (s : F .f32) (d : Fin 2) (h : Fin 8) : Pg F PUnit := do
  let x : FVec F S256x4096 .fp8e5m2 ← chunkP d h
  let w : Vec F S4096x1024 .bf16 ← Prog.lift (.load wbM (Rect.unit (s := S4096x1024) ![0, 0] S4096x1024.size inb_S4096x1024_S4096x1024_0_0).toLoadRect (View.loadsAt_vmem h_S4096x1024))
  match h with
  | ⟨0, _⟩ => pure ⟨⟩
  | ⟨h + 1, hh⟩ => outWaitP c d ⟨h, by omega⟩
  let _ : Vec F S1x256x1024 .bf16 ← Prog.lift (.load stM (stR d).toLoadRect (View.loadsAt_vmem h_S1x256x1024))
  Prog.lift (.store stM (stR d) (shapeCast S1x256x1024 (blockPay s x w) shapeCasts_S256x1024_S1x256x1024) Finset.univ
    (View.stores_vmem h_S1x256x1024 ((Memref.isWhole_whole _).storeExact_slice rfl _ (stPacked d)) (fun _ => rfl)) (.inl rfl))
  outStartP c d h

/-- Wait for a piece of hop `h` and pass it on. -/
def passP (c : Dev nD) (h : Fin 7) (s d : Fin 2) : Pg F PUnit := do
  recvP d h s
  if hh : h.val + 1 < 7 then sendP c d ⟨h.val + 1, hh⟩ s else pure ⟨⟩

/-- Hop `h`: both directions' pieces arrive and are passed on, then both blocks are computed. -/
def hopP (c : Dev nD) (s : F .f32) (h : Fin 7) : Pg F PUnit := do
  forP 2 fun k => forP 2 fun d => passP c h k d
  forP 2 fun d => gemmP c s d h.succ

def bodyP : Pg F PUnit := do
  let c : Dev nD ← Prog.lift .deviceId
  semSignalWord (tgt c 1) barS 1#32
  semSignalWord (tgt c 0) barS 1#32
  semWaitWord barS 2#32
  forP 2 fun d => forP 2 fun s => sendP c d 0 s
  forP 2 fun i => wStartP (Fin.castLE (by decide) i)
  forP 8 wP
  let a : Elt F .f32 ← smemLoad sxM (Rect.unit (s := S1) ![0] S1.size inb_S1_S1_0) numel1_S1 rfl
  let b : Elt F .f32 ← smemLoad swM (Rect.unit (s := S1) ![0] S1.size inb_S1_S1_0) numel1_S1 rfl
  forP 2 fun d => gemmP c (Scalar.mulf a b) d 0
  forP 7 (hopP c (Scalar.mulf a b))
  forP 2 fun d => forP 7 fun h => forP 2 fun s => sentP d h s
  forP 2 fun d => outWaitP c d 7

set_option maxRecDepth 1000000 in
set_option maxHeartbeats 4000000 in
theorem body_eq (t : Fin cfg0.N) : bodyAt0 (F := F) t = bodyP := by
  rfl

end Cert.KernelIdeal.Proof

end
-- ==== Proof.Protocol.lean ====
/- The protocol of the kernel: which cell is paid by whom, by how much, and what contents a landing hands over. -/
module

public import proofs.«01_k».proof.Proof.Model
public import Idealize.ShloMosaic.Lib.Pipeline.RegionTalk
public import Idealize.ShloMosaic.Lib.Pipeline.Kit
public import Idealize.ShloMosaic.Lib.Pointwise
public import Idealize.ShloMosaic.Lib.Transfers
public import Idealize.ShloMosaic.Lib.Rounds
public import Idealize.ShloMosaic.Lib.ViewIndex

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds
open Cert.KernelIdeal.Gen

variable {F : FTy → Type} [FloatOps F]

/-! ## The resource algebra -/

abbrev UB : Type := URounds (GSem nD τ sig) (Fin 2)
abbrev UU : Type := UR sig nD τ × (UB × Counters)

/-- The resources: the staging's rounds, this protocol's rounds, the counters of the local copies. -/
abbrev MM (F : FTy → Type) : Type := MT nD τ sig Unit (Elt F) ℕ UU ℕ

local notation "𝕄" => MM F

abbrev EP : Emb (UR sig nD τ) (MM F) := embL
abbrev ER : Emb UB (MM F) := (Emb.inl : Emb UB (UB × Counters)).trans embR

instance : (ER (F := F)).LandsIn (upEmb : UEmb _ 𝕄) := inferInstance

abbrev EC : UEmb Counters (MM F) := countersEmb

/-! ## Cells -/

abbrev barCell (c : Dev nD) : GSem nD τ sig := ((c : Thread nD τ), .reg barS)
abbrev sendCell (c : Dev nD) (d : Fin 2) (h : Fin 7) (s : Fin 2) : GSem nD τ sig := ((c : Thread nD τ), .dma (sendS d h s))
abbrev recvCell (c : Dev nD) (d : Fin 2) (h : Fin 7) (s : Fin 2) : GSem nD τ sig := ((c : Thread nD τ), .dma (recvS d h s))

/-- One transfer: the direction, the hop, the half of the chunk. -/
abbrev Hop : Type := Fin 2 × Fin 7 × Fin 2

/-- The two semaphores of a transfer: what the sender waits on, what the receiver waits on. -/
abbrev hopSem : Fin 2 × Hop → SemLoc sig
  | (0, d, h, s) => .dma (sendS d h s)
  | (1, d, h, s) => .dma (recvS d h s)

theorem hopSem_inj : Function.Injective hopSem := by decide +kernel
theorem hopSem_ne_bar : ∀ q, hopSem q ≠ .reg barS := by decide +kernel

/-- Which transfer, and which end of it, a semaphore belongs to. -/
def role (l : SemLoc sig) : Option (Fin 2 × Hop) := if h : ∃ q, hopSem q = l then some h.choose else none
theorem role_hop (q : Fin 2 × Hop) : role (hopSem q) = some q := by
  unfold role
  have h : ∃ q', hopSem q' = hopSem q := ⟨q, rfl⟩
  rw [dif_pos h]; exact congrArg some (hopSem_inj h.choose_spec)
theorem role_bar : role (.reg barS) = none := by
  unfold role; exact dif_neg fun ⟨q, h⟩ => hopSem_ne_bar q h
theorem role_w (k : Fin 2) : role (.dma (wS k)) = none := by
  unfold role; exact dif_neg fun ⟨q, h⟩ => absurd h (by revert k q; decide +kernel)
theorem role_o (k : Fin 2) : role (.dma (oS k)) = none := by
  unfold role; exact dif_neg fun ⟨q, h⟩ => absurd h (by revert k q; decide +kernel)

/-! ## The ring -/

/-- The neighbour a direction receives from. -/
abbrev frm (c : Dev nD) (d : Fin 2) : Dev nD := tgt c d.rev
theorem tgt_frm : ∀ (c : Dev nD) (d : Fin 2), tgt (frm c d) d = c := by decide +kernel
theorem frm_tgt : ∀ (c : Dev nD) (d : Fin 2), frm (tgt c d) d = c := by decide +kernel

/-- The device `n` places upstream. -/
def org (c : Dev nD) (d : Fin 2) (n : ℕ) : Dev nD := (fun c => frm c d)^[n] c
theorem org_zero (c : Dev nD) (d : Fin 2) : org c d 0 = c := rfl
theorem org_tgt (c : Dev nD) (d : Fin 2) (n : ℕ) : org (tgt c d) d (n + 1) = org c d n := by
  unfold org; rw [Function.iterate_succ_apply]; exact congrArg _ (frm_tgt c d)

/-! ## Contents -/

variable (F) in
/-- What the devices start from: their blocks of x and of the weights, and the two scales. -/
structure Inp where
  x : Dev nD → Vec F S512x4096 .fp8e5m2
  w : Dev nD → Vec F S4096x1024 .f32
  sx : Dev nD → Vec F S1 .f32
  sw : Dev nD → Vec F S1 .f32

variable (I : Inp F)

theorem half_lt (d : Fin 2) (r : Fin 256) : 256 * d.val + r.val < 512 := by omega
/-- Slot `h` of a receive buffer, once filled: a half of the rows of the device `h + 1` places upstream. -/
def comV (c : Dev nD) (d : Fin 2) : Vec F S7x256x4096 .fp8e5m2 :=
  fun i => I.x (org c d ((i 0).val + 1)) (ix2 ⟨256 * d.val + (i 1).val, half_lt d (i 1)⟩ (i 2))
def comC (c : Dev nD) : (d : Fin 2) → Buf (Elt F) ((comM d).view.loc (c : Thread nD τ))
  | 0 => comV I c 0
  | 1 => comV I c 1
def srcC (c : Dev nD) (d : Fin 2) : (h : Fin 7) → (s : Fin 2) → Buf (Elt F) ((srcP d h s).view.loc (c : Thread nD τ))
  | ⟨0, _⟩, s => I.x c
  | ⟨h + 1, hh⟩, s => comC I c d

/-- The cells a memref names on a device, at a share. -/
abbrev mpt {sp : Space} {s : Shape} {e : EltTy} (c : Dev nD) (M : Memref sig .tc sp s e) (q : PosShare TreeShare) (f : Buf (Elt F) (M.view.loc (c : Thread nD τ))) : sProp 𝕄 :=
  M.view.loc (c : Thread nD τ) ↦[M.view.set]{q} f

theorem agree_of_read {sp : Space} {s : Shape} {e : EltTy} (v : View sig .tc sp s e) {f g : v.ty.Contents (Elt F)}
    (h : v.read (Elt F) f = v.read (Elt F) g) : ∀ i ∈ v.set, f i = g i := fun i hi => by
  obtain ⟨x, -, rfl⟩ := Finset.mem_map.mp hi
  exact View.eq_of_read_eq (v := v) (congrFun h x)

/-- Row `128 s + x 0` of slot `h`. -/
abbrev pix (h : Fin 7) (s : Fin 2) (x : S128x4096.Idx) : S7x256x4096.Idx :=
  ix3 h ⟨128 * s.val + (x 0).val, by have : (x 0).val < 128 := (x 0).isLt; omega⟩ (x 1)
theorem piece_idx (h : Fin 7) (s : Fin 2) (x : S128x4096.Idx) (hn) :
    (Rect.unit (s := S7x256x4096) ![h.val, 128 * s.val, 0] S1x128x4096.size (pieceInb h s)).emb (Shape.reshapeEquiv (s := S1x128x4096) (s' := S128x4096) hn x) = pix h s x := by
  rw [Shape.reshapeEquiv_cons_one (n := 2) (d := ![128, 4096])]
  funext a
  refine Fin.ext ?_
  match a with
  | ⟨0, _⟩ => show h.val + 1 * 0 = h.val; omega
  | ⟨1, _⟩ => show 128 * s.val + 1 * (x 0).val = 128 * s.val + (x 0).val; omega
  | ⟨2, _⟩ => show 0 + 1 * (x 1).val = (x 1).val; omega
/-- Row `256 d + 128 s + x 0` of a device's block of x. -/
abbrev xix (d s : Fin 2) (x : S128x4096.Idx) : S512x4096.Idx :=
  ix2 ⟨256 * d.val + (128 * s.val + (x 0).val), by have : (x 0).val < 128 := (x 0).isLt; omega⟩ (x 1)
theorem xPiece_idx (d s : Fin 2) (x : S128x4096.Idx) :
    (Rect.unit (s := S512x4096) ![256 * d.val + 128 * s.val, 0] S128x4096.size (xPieceInb d s)).emb x = xix d s x := by
  funext a
  refine Fin.ext ?_
  match a with
  | ⟨0, _⟩ => show 256 * d.val + 128 * s.val + 1 * (x 0).val = 256 * d.val + (128 * s.val + (x 0).val); omega
  | ⟨1, _⟩ => show 0 + 1 * (x 1).val = (x 1).val; omega

theorem piece_read (c : Dev nD) (d : Fin 2) (h : Fin 7) (s : Fin 2) (x : S128x4096.Idx) :
    (piece d h s).view.read (Elt F) (comC I c d) x = I.x (org c d (h.val + 1)) (xix d s x) := by
  match d with
  | 0 =>
    show comV I c 0 ((Rect.unit (s := S7x256x4096) ![h.val, 128 * s.val, 0] S1x128x4096.size (pieceInb h s)).emb (Shape.reshapeEquiv (s := S1x128x4096) (s' := S128x4096) _ x)) = _
    rw [piece_idx]; rfl
  | 1 =>
    show comV I c 1 ((Rect.unit (s := S7x256x4096) ![h.val, 128 * s.val, 0] S1x128x4096.size (pieceInb h s)).emb (Shape.reshapeEquiv (s := S1x128x4096) (s' := S128x4096) _ x)) = _
    rw [piece_idx]; rfl
theorem src_read (c : Dev nD) (d : Fin 2) : ∀ (h : Fin 7) (s : Fin 2) (x : S128x4096.Idx),
    (srcP d h s).view.read (Elt F) (srcC I c d h s) x = I.x (org c d h.val) (xix d s x)
  | ⟨0, _⟩, s, x => by
    show I.x c ((Rect.unit (s := S512x4096) ![256 * d.val + 128 * s.val, 0] S128x4096.size (xPieceInb d s)).emb x) = _
    rw [xPiece_idx]; rfl
  | ⟨h + 1, hh⟩, s, x => piece_read I c d ⟨h, by omega⟩ s x

/-- What a transfer lands is what the receiver's slot is to hold. -/
theorem landed (c : Dev nD) (d : Fin 2) (h : Fin 7) (s : Fin 2) (fd : Buf (Elt F) ((piece d h s).view.loc (tgt c d : Thread nD τ))) :
    (mpt (tgt c d) (piece d h s) fullShare ((piece d h s).view.write (Elt F) fd ((srcP d h s).view.read (Elt F) (srcC I c d h s)) Finset.univ) : sProp 𝕄)
      = mpt (tgt c d) (piece d h s) fullShare (comC I (tgt c d) d) :=
  pointsTo_congr (agree_of_read (F := F) (piece d h s).view (by
    rw [View.read_write_univ]; funext x
    rw [src_read, piece_read, org_tgt]))

/-! ## The schedule -/

/-- The credit of one transfer. -/
abbrev N : ℕ := (piece 0 0 0).view.dmaCredit
theorem N_pos : 0 < N := View.dmaCredit_pos _ (by decide)
theorem piece_credit : ∀ (d : Fin 2) (h : Fin 7) (s : Fin 2), (piece d h s).view.dmaCredit = N
  | 0, h, s => rfl
  | 1, h, s => rfl
theorem src_credit : ∀ (d : Fin 2) (h : Fin 7) (s : Fin 2), (srcP d h s).view.dmaCredit = N
  | d, ⟨0, _⟩, s => rfl
  | d, ⟨h + 1, hh⟩, s => piece_credit d ⟨h, by omega⟩ s

/-- The right half of a share goes to the transfers, the left half to the loads. -/
abbrev qL : PosShare TreeShare := fullShare.left
abbrev qR : PosShare TreeShare := fullShare.right

/-- A neighbour's signal: its receive buffer of the direction it receives along, and that its receive semaphores are ready. -/
def barPay (c : Dev nD) (d : Fin 2) : sProp 𝕄 :=
  bigSep Finset.univ fun p : Fin 7 × Fin 2 =>
    iprop((∃ f, mpt (F := F) (tgt c d) (piece d p.1 p.2) fullShare f) ∗ reached ER (recvCell (tgt c d) d p.1 p.2) 0)
/-- An arrival: the piece of the receive buffer, holding the upstream device's rows. -/
def recvPay (c : Dev nD) (d : Fin 2) (h : Fin 7) (s : Fin 2) : sProp 𝕄 := mpt c (piece d h s) fullShare (comC I c d)
/-- A departure: the share of the source that was lent. -/
def sendPay (c : Dev nD) (d : Fin 2) (h : Fin 7) (s : Fin 2) : sProp 𝕄 := mpt c (srcP d h s) qR (srcC I c d h s)

/-- One round on every cell: on a barrier one unit from each neighbour, on a transfer's semaphores its credit. -/
def rd : Rounds.Schedule (GSem nD τ sig) (Fin 2) 𝕄 where
  duties g r := if r = 0 ∧ g.1.2 = .tc then (if g.2 = .reg barS then Finset.univ else if (role g.2).isSome then {0} else ∅) else ∅
  unitless _ := False
  amount g _ _ := if g.2 = .reg barS then 1 else N
  payload g _ u :=
    if g.2 = .reg barS then barPay g.1.1 u
    else match role g.2 with
      | some (0, d, h, s) => sendPay I g.1.1 d h s
      | some (1, d, h, s) => recvPay I g.1.1 d h s
      | none => iprop(emp)
  amount_pos g _ _ _ := by
    by_cases h : g.2 = .reg barS
    · rw [if_pos h]; exact Nat.one_pos
    · rw [if_neg h]; exact N_pos

instance rd_storable (g : GSem nD τ sig) (r : ℕ) (u : Fin 2) : BI.Storable (upEmb : UEmb _ 𝕄) ((rd I).payload g r u) := by
  dsimp only [rd]
  unfold barPay recvPay sendPay
  (repeat' split) <;> infer_instance

section Sched

variable (c : Dev nD) (d : Fin 2) (h : Fin 7) (s : Fin 2)

theorem send_ne_bar : (SemLoc.dma (sendS d h s) : SemLoc sig) ≠ .reg barS := fun e => by cases e
theorem recv_ne_bar : (SemLoc.dma (recvS d h s) : SemLoc sig) ≠ .reg barS := fun e => by cases e
theorem role_send : role (.dma (sendS d h s)) = some (0, d, h, s) := role_hop (0, d, h, s)
theorem role_recv : role (.dma (recvS d h s)) = some (1, d, h, s) := role_hop (1, d, h, s)

theorem duties_bar : (rd I).duties (barCell c) 0 = Finset.univ := by
  dsimp only [rd]; rw [if_pos ⟨rfl, rfl⟩, if_pos rfl]
theorem duties_send : (rd I).duties (sendCell c d h s) 0 = {0} := by
  dsimp only [rd]; rw [if_pos ⟨rfl, rfl⟩, if_neg (send_ne_bar d h s), role_send]; rfl
theorem duties_recv : (rd I).duties (recvCell c d h s) 0 = {0} := by
  dsimp only [rd]; rw [if_pos ⟨rfl, rfl⟩, if_neg (recv_ne_bar d h s), role_recv]; rfl
theorem duties_later (g : GSem nD τ sig) : ∀ r, 1 ≤ r → (rd I).duties g r = ∅ :=
  fun r hr => by dsimp only [rd]; exact if_neg fun e => by omega

theorem amount_bar (u : Fin 2) : (rd I).amount (barCell c) 0 u = 1 := by dsimp only [rd]; exact if_pos rfl
theorem amount_send (u : Fin 2) : (rd I).amount (sendCell c d h s) 0 u = N := by dsimp only [rd]; exact if_neg (send_ne_bar d h s)
theorem amount_recv (u : Fin 2) : (rd I).amount (recvCell c d h s) 0 u = N := by dsimp only [rd]; exact if_neg (recv_ne_bar d h s)

theorem expect_bar : (rd I).expect (barCell c) 0 = 2 := by
  unfold Schedule.expect Schedule.amountOf; rw [duties_bar, Finset.sum_congr rfl fun u _ => amount_bar I c u]; rfl
theorem expect_send : (rd I).expect (sendCell c d h s) 0 = N := by
  unfold Schedule.expect Schedule.amountOf; rw [duties_send, Finset.sum_singleton, amount_send]
theorem expect_recv : (rd I).expect (recvCell c d h s) 0 = N := by
  unfold Schedule.expect Schedule.amountOf; rw [duties_recv, Finset.sum_singleton, amount_recv]

theorem payload_bar (u : Fin 2) : (rd I).payload (barCell c) 0 u = barPay c u := by dsimp only [rd]; exact if_pos rfl
theorem payload_send (u : Fin 2) : (rd I).payload (sendCell c d h s) 0 u = sendPay I c d h s := by
  dsimp only [rd]; rw [if_neg (send_ne_bar d h s), role_send]
theorem payload_recv (u : Fin 2) : (rd I).payload (recvCell c d h s) 0 u = recvPay I c d h s := by
  dsimp only [rd]; rw [if_neg (recv_ne_bar d h s), role_recv]

theorem rest_bar : bigSep ((rd I).duties (barCell c) 0 \ ∅) (fun u => (rd I).payload (barCell c) 0 u) = bigSep Finset.univ fun u => barPay c u := by
  rw [Finset.sdiff_empty, duties_bar]; exact bigSep_congr fun u _ => payload_bar I c u
theorem rest_send : bigSep ((rd I).duties (sendCell c d h s) 0 \ ∅) (fun u => (rd I).payload (sendCell c d h s) 0 u) = sendPay I c d h s := by
  rw [Finset.sdiff_empty, duties_send, bigSep_singleton, payload_send]
theorem rest_recv : bigSep ((rd I).duties (recvCell c d h s) 0 \ ∅) (fun u => (rd I).payload (recvCell c d h s) 0 u) = recvPay I c d h s := by
  rw [Finset.sdiff_empty, duties_recv, bigSep_singleton, payload_recv]

end Sched

/-! ## What a device owes; the levels -/

/-- The credit a transfer of device `c` owes its receiver. -/
abbrev due (c : Dev nD) (p : Hop) : CellTallies nD τ sig Unit := tallyAt (recvCell (tgt c p.1) p.1 p.2.1 p.2.2) () N
/-- The credits of the transfers still to be started. -/
def dues (c : Dev nD) (S : Finset Hop) : CellTallies nD τ sig Unit := ∑ p ∈ S, due c p
theorem dues_empty (c : Dev nD) : dues c ∅ = 0 := Finset.sum_empty
theorem dues_erase (c : Dev nD) {S : Finset Hop} {p : Hop} (hp : p ∈ S) : dues c S = dues c (S.erase p) + due c p :=
  (Finset.sum_erase_add S _ hp).symm
/-- The transfers of hop `n` and later. -/
abbrev hops (n : ℕ) : Finset Hop := Finset.univ.filter fun p => n ≤ p.2.1.val

/-- At launch: every transfer, and a unit to each neighbour's barrier. -/
def O₀ (c : Dev nD) : CellTallies nD τ sig Unit :=
  dues c (hops 0) + tallyAt (barCell (tgt c 0)) () 1 + tallyAt (barCell (tgt c 1)) () 1

def L (g : GSem nD τ sig) : Finset Unit := if g.1.2 = .tc then {()} else ∅
/-- Barriers at 1, the arrival of hop `h` at `2 + h`, the rest at 0. -/
def lv (g : GSem nD τ sig) (_ : Unit) : ℕ :=
  if g.2 = .reg barS then 1 else match role g.2 with
    | some (1, _, h, _) => 2 + h.val
    | _ => 0
theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) (u : Unit) : lv (barCell c) u = 1 := if_pos rfl
theorem lv_recv (c : Dev nD) (d : Fin 2) (h : Fin 7) (s : Fin 2) (u : Unit) : lv (recvCell c d h s) u = 2 + h.val := by
  unfold lv; rw [if_neg (recv_ne_bar d h s), role_recv]; rfl
theorem lv_dma (c : Dev nD) (k : DmaSem sig) (hk : role (.dma k) = none) (u : Unit) : lv ((c : Thread nD τ), .dma k) u = 0 := by
  unfold lv; rw [if_neg (fun e => by cases e)]; dsimp only; rw [hk]

theorem tally_pos {g g' : GSem nD τ sig} {u u' : Unit} {n : ℕ} (h : 0 < tallyAt (Ix := Unit) g u n g' u') : g' = g := by
  rw [tallyAt_apply] at h
  split at h
  · next e => exact e.1
  · exact absurd h (Nat.lt_irrefl 0)
theorem dues_pos {c : Dev nD} {S : Finset Hop} {g : GSem nD τ sig} {u : Unit} (h : 0 < dues c S g u) :
    ∃ p ∈ S, g = recvCell (tgt c p.1) p.1 p.2.1 p.2.2 := by
  unfold dues at h
  rw [Finset.sum_apply, Finsupp.finset_sum_apply] at h
  obtain ⟨p, hp, h⟩ := Finset.exists_ne_zero_of_sum_ne_zero h.ne'
  exact ⟨p, hp, tally_pos (Nat.pos_of_ne_zero h)⟩

/-- A device may wait on a cell below everything it still owes. -/
theorem mayWait (c : Dev nD) (sm : SemLoc sig) (S : Finset Hop) (b : ℕ) (hb : lv ((c : Thread nD τ), sm) () ≤ b) (hS : ∀ p ∈ S, b < 2 + p.2.1.val) :
    (levAts L lv : sProp 𝕄) ⊢ MayWait (c : Thread nD τ) sm () (dues c S) :=
  MayOwe.of_cut (L := L) (lev := lv) b (fun p hp => by rw [Finset.mem_singleton.mp hp]; exact mem_L _ _ _)
    (fun g u hg => by obtain ⟨p, hp, rfl⟩ := dues_pos hg; exact mem_L _ _ _)
    (fun p hp => by rw [Finset.mem_singleton.mp hp]; exact hb)
    (fun g u hg => by obtain ⟨p, hp, rfl⟩ := dues_pos hg; rw [lv_recv]; exact hS p hp)

theorem cut (c : Dev nD) (g : GSem nD τ sig) (u : Unit) (h : 0 < O₀ c g u) : u ∈ L g ∧ (0 : ℕ) < lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨p, hp, rfl⟩ := dues_pos h
      exact ⟨mem_L _ _ _, by rw [lv_recv]; omega⟩
    · rw [tally_pos h]; exact ⟨mem_L _ _ _, by rw [lv_bar]; exact Nat.one_pos⟩
  · rw [tally_pos h]; exact ⟨mem_L _ _ _, by rw [lv_bar]; exact Nat.one_pos⟩

abbrev 𝒱₀ : Variants := Variants.none

/-! ## The records every device may consult -/

def barEmb : Dev nD ↪ GSem nD τ sig := ⟨fun c => barCell c, fun _ _ h => congrArg (fun g : GSem nD τ sig => g.1.1) h⟩
def hopEmb : Dev nD × (Fin 2 × Hop) ↪ GSem nD τ sig :=
  ⟨fun cq => ((cq.1 : Thread nD τ), hopSem cq.2), fun _ _ h =>
    Prod.ext (congrArg (fun g : GSem nD τ sig => g.1.1) h) (hopSem_inj (congrArg Prod.snd h))⟩
abbrev barCells : Finset (GSem nD τ sig) := Finset.univ.map barEmb
abbrev hopCells : Finset (GSem nD τ sig) := Finset.univ.map hopEmb
theorem bar_mem (c : Dev nD) : barCell c ∈ barCells := Finset.mem_map_of_mem barEmb (Finset.mem_univ c)
theorem send_mem (c : Dev nD) (d : Fin 2) (h : Fin 7) (s : Fin 2) : sendCell c d h s ∈ barCells ∪ hopCells :=
  Finset.mem_union_right _ (Finset.mem_map_of_mem hopEmb (Finset.mem_univ (c, ((0 : Fin 2), (d, h, s)))))
theorem recv_mem (c : Dev nD) (d : Fin 2) (h : Fin 7) (s : Fin 2) : recvCell c d h s ∈ barCells ∪ hopCells :=
  Finset.mem_union_right _ (Finset.mem_map_of_mem hopEmb (Finset.mem_univ (c, ((1 : Fin 2), (d, h, s)))))

/-- Every cell's invariant, under one map of names; every barrier ready; the levels. -/
def recs (κ : GSem nD τ sig → ℕ) : sProp 𝕄 :=
  iprop((bigSep (barCells ∪ hopCells) fun g => cellInv ER (rd I) (κ g) g) ∗ (bigSep barCells fun g => reached ER g 0) ∗ levAts L lv)
instance recs_persistent (κ : GSem nD τ sig → ℕ) : BI.Persistent (recs I κ) := by unfold recs; infer_instance
theorem recs_inv (κ : GSem nD τ sig → ℕ) {g : GSem nD τ sig} (hg : g ∈ barCells ∪ hopCells) : recs I κ ⊢ cellInv ER (rd I) (κ g) g := by
  have h : (bigSep (barCells ∪ hopCells) fun g => (cellInv ER (rd I) (κ g) g : sProp 𝕄)) ⊢ cellInv ER (rd I) (κ g) g := bigSep_elim hg
  unfold recs; iintro ⟨H, -, -⟩; iapply h; iexact H
theorem recs_reached (κ : GSem nD τ sig → ℕ) (c : Dev nD) : recs I κ ⊢ reached ER (barCell c) 0 := by
  have h : (bigSep barCells fun g => (reached ER g 0 : sProp 𝕄)) ⊢ reached ER (barCell c) 0 := bigSep_elim (bar_mem c)
  unfold recs; iintro ⟨-, H, -⟩; iapply h; iexact H
theorem recs_lev (κ : GSem nD τ sig → ℕ) : recs I κ ⊢ levAts L lv := by
  unfold recs; iintro ⟨-, -, H⟩; iexact H

end Cert.KernelIdeal.Proof

end
-- ==== Proof.Steps.lean ====
/- The steps of the protocol, each once for every direction, hop and half. -/
module

public import proofs.«01_k».proof.Proof.Protocol

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds
open Cert.KernelIdeal.Gen

variable {F : FTy → Type} [FloatOps F]

local notation "𝕄" => MM F

/-- The weakest precondition of a piece of kernel program on device `c`. -/
abbrev WP (c : Dev nD) {α : Type} (p : Pg F α) (Q : α → sProp 𝕄) : sProp 𝕄 :=
  wp frame (wpE (defs₀ (F := F)) 𝒱₀ (c : Thread nD τ) none) Set.univ p Q

/-- Use a triple in front of a continuation. -/
theorem step {c : Dev nD} {p : Pg F PUnit} {P Q : sProp 𝕄} {K : PUnit → sProp 𝕄} (h : P ⊢ WP c p fun _ => Q) :
    P ⊢ iprop((Q -∗ K ⟨⟩) -∗ WP c p K) := by
  refine h.trans ?_
  iintro Hw Hk
  iapply (wp_wand_r frame _ Set.univ)
  isplitl [Hw]; · iexact Hw
  iintro %a HQ
  iapply Hk; iexact HQ

variable (I : Inp F) (κ : GSem nD τ sig → ℕ) (c : Dev nD)

/-- What the device still owes, whatever it has waited on. -/
def ow (S : Finset Hop) : sProp 𝕄 := iprop(∃ W, owes (c : Thread nD τ) (dues c S) W)

/-- Everything a transfer is started with besides its source. -/
def sendRes (d : Fin 2) (h : Fin 7) (s : Fin 2) : sProp 𝕄 :=
  iprop(dutyTok ER (sendCell c d h s) 0 0 ∗ dutyTok ER (recvCell (tgt c d) d h s) 0 0
    ∗ atPos ER (sendCell c d h s) 0 ∅ 0 ∗ reached ER (sendCell c d h s) 0
    ∗ (∃ f, mpt (F := F) (tgt c d) (piece d h s) fullShare f) ∗ reached ER (recvCell (tgt c d) d h s) 0)
/-- A transfer under way. -/
def flyRes (d : Fin 2) (h : Fin 7) (s : Fin 2) : sProp 𝕄 :=
  iprop(cred (tallyAt (sendCell c d h s) () N) ∗ atPos ER (sendCell c d h s) 0 ∅ 0)
/-- Everything an arrival is waited for with. -/
def recvRes (d : Fin 2) (h : Fin 7) (s : Fin 2) : sProp 𝕄 :=
  iprop(cred (tallyAt (recvCell c d h s) () N) ∗ atPos ER (recvCell c d h s) 0 ∅ 0)

/-- Starting a transfer: the lent source and the duties go, the credit to wait for its departure comes. -/
theorem send_step (d : Fin 2) (h : Fin 7) (s : Fin 2) (S : Finset Hop) (hp : (d, h, s) ∈ S) :
    iprop(recs I κ ∗ sendRes c d h s ∗ sendPay I c d h s ∗ ow c S)
      ⊢ WP c (sendP c d h s) fun _ => iprop(flyRes c d h s ∗ ow c (S.erase (d, h, s))) := by
  unfold sendP sendRes ow sendPay flyRes
  iintro ⟨#HR, ⟨Ht1, Ht2, Hat, #Hr1, ⟨%fd, Hd⟩, #Hr2⟩, Hs, ⟨%W, HO⟩⟩
  iapply (Rounds.wp_send_pointsTo 𝒱₀ ER (rd I) (c : Thread nD τ) none (c' := (tgt c d : Thread nD τ)) (src := srcP d h s) (dst := piece d h s)
      (sS := .dma (sendS d h s)) (sem := .dma (recvS d h s)) (q := qR) (fs := srcC I c d h s) (fd := fd)
      (κ₁ := κ (sendCell c d h s)) (κ₂ := κ (recvCell (tgt c d) d h s)) (r₁ := 0) (r₂ := 0) (d₁ := 0) (d₂ := 0)
      (by rw [duties_send]; exact Finset.mem_singleton_self _) (by rw [duties_recv]; exact Finset.mem_singleton_self _)
      () () N (piece_credit d h s) (amount_send I c d h s 0) (amount_recv I (tgt c d) d h s 0) (dues c (S.erase (d, h, s))) (dues_erase c hp) (W := W)
      (by rw [payload_send]; exact BI.Entails.refl _) (by rw [payload_recv]; exact Entails.of_eq (landed I c d h s fd))) $$ [Hs Hd HO Ht1 Ht2]
  · isplitr; · iapply (recs_inv I κ (send_mem c d h s)); iexact HR
    isplitr; · iapply (recs_inv I κ (recv_mem (tgt c d) d h s)); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc Hat]
  · isplitl [Hc]; · iexact Hc
    iexact Hat
  iexists W; iexact HO

/-- An arrival: the piece comes, holding the upstream device's rows. -/
theorem recv_step (d : Fin 2) (h : Fin 7) (s : Fin 2) (S : Finset Hop) (hS : ∀ p ∈ S, h.val < p.2.1.val) :
    iprop(recs I κ ∗ recvRes c d h s ∗ ow c S)
      ⊢ WP c (recvP d h s) fun _ => iprop(atPos ER (recvCell c d h s) 1 ∅ 0 ∗ recvPay I c d h s ∗ ow c S) := by
  unfold recvP recvRes ow
  iintro ⟨#HR, ⟨Hc, Hat⟩, ⟨%W, HO⟩⟩
  iapply (Rounds.wp_wait_rest_token 𝒱₀ ER (rd I) (c : Thread nD τ) none (κ := κ (recvCell c d h s))
      (wpE_waitDma2_eq 𝒱₀ (c : Thread nD τ) none Set.univ) (Set.mem_univ _) () (O := dues c S) (W := W) (R := 0) (m := 0) (T := ∅)
      ((Nat.zero_add _).trans ((piece_credit d h s).trans (expect_recv I c d h s).symm))) $$ [Hc HO Hat]
  · rw [piece_credit]
    isplitr; · iapply (recs_inv I κ (recv_mem c d h s)); iexact HR
    isplitl [Hc]; · iexact Hc
    isplitl [HO]; · iexact HO
    isplitr
    · iapply (mayWait c (.dma (recvS d h s)) S (2 + h.val) (le_of_eq (lv_recv c d h s ())) fun p hp => by have := hS p hp; omega)
      iapply (recs_lev I κ); iexact HR
    iexact Hat
  iintro ⟨HO, Hat, -, Hp⟩
  rw [wp_ret]; imodintro
  isplitl [Hat]; · iexact Hat
  isplitl [Hp]; · iapply (Entails.of_eq (rest_recv I c d h s)); iexact Hp
  iexists _; iexact HO

/-- A departure, once nothing is owed: the lent source comes back. -/
theorem sent_step (d : Fin 2) (h : Fin 7) (s : Fin 2) :
    iprop(recs I κ ∗ flyRes c d h s ∗ ow c ∅)
      ⊢ WP c (sentP d h s) fun _ => iprop(atPos ER (sendCell c d h s) 1 ∅ 0 ∗ sendPay I c d h s ∗ ow c ∅) := by
  unfold sentP flyRes ow
  iintro ⟨#HR, ⟨Hc, Hat⟩, ⟨%W, HO⟩⟩
  iapply (Rounds.wp_wait_rest_token 𝒱₀ ER (rd I) (c : Thread nD τ) none (κ := κ (sendCell c d h s))
      (wpE_waitDma2_eq 𝒱₀ (c : Thread nD τ) none Set.univ) (Set.mem_univ _) () (O := dues c ∅) (W := W) (R := 0) (m := 0) (T := ∅)
      ((Nat.zero_add _).trans ((src_credit d h s).trans (expect_send I c d h s).symm))) $$ [Hc HO Hat]
  · rw [src_credit]
    isplitr; · iapply (recs_inv I κ (send_mem c d h s)); iexact HR
    isplitl [Hc]; · iexact Hc
    isplitl [HO]; · iexact HO
    isplitr; · rw [dues_empty, MayWait_zero]; iempintro
    iexact Hat
  iintro ⟨HO, Hat, -, Hp⟩
  rw [wp_ret]; imodintro
  isplitl [Hat]; · iexact Hat
  isplitl [Hp]; · iapply (Entails.of_eq (rest_send I c d h s)); iexact Hp
  iexists _; iexact HO

end Cert.KernelIdeal.Proof

end
-- ==== Proof.Loops.lean ====
/- Sums over consecutive indices, the rule for a loop, and the passing on of a piece. -/
module

public import proofs.«01_k».proof.Proof.Steps

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds
open Cert.KernelIdeal.Gen

variable {F : FTy → Type} [FloatOps F]

local notation "𝕄" => MM F

/-! ## Sums over consecutive indices -/

/-- The first summand apart. -/
theorem big_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl
/-- The last summand apart. -/
theorem big_last {n : ℕ} (Φ : Fin (n + 1) → sProp 𝕄) :
    bigSep Finset.univ Φ = iprop((bigSep Finset.univ fun i : Fin n => Φ i.castSucc) ∗ Φ (Fin.last n)) := by
  rw [Fin.univ_castSuccEmb, Finset.cons_eq_insert, bigSep_insert (by simp [Fin.castSucc_ne_last]), bigSep_map]
  exact equiv_iff.mp ⟨BI.sep_comm, BI.sep_comm⟩
theorem big_none (Φ : Fin 0 → sProp 𝕄) : bigSep Finset.univ Φ = iprop(emp) := by
  rw [Finset.univ_eq_empty, bigSep_empty]; rfl

/-- The summand after `i`, nothing after the last. -/
def next {n : ℕ} (Φ : Fin n → sProp 𝕄) (i : Fin n) : sProp 𝕄 := if h : i.val + 1 < n then Φ ⟨i.val + 1, h⟩ else iprop(emp)

/-- A sum is its first summand and, at every index, the summand after it. -/
theorem big_next {n : ℕ} (Φ : Fin (n + 1) → sProp 𝕄) :
    bigSep Finset.univ Φ = iprop(Φ 0 ∗ bigSep Finset.univ (next Φ)) := by
  rw [big_succ, big_last (next Φ)]
  have h1 : (fun i : Fin n => next Φ i.castSucc) = fun i => Φ i.succ := by
    funext i; unfold next; rw [dif_pos (show i.castSucc.val + 1 < n + 1 from by simp)]; rfl
  have h2 : next Φ (Fin.last n) = iprop(emp) := by unfold next; exact dif_neg (by simp)
  rw [h1, h2]
  congr 1
  exact (equiv_iff.mp sep_emp).symm

/-! ## Loops -/

theorem wp_seq {c : Dev nD} {α β : Type} {p : Pg F α} {k : α → Pg F β} {P : sProp 𝕄} {Q : β → sProp 𝕄}
    (h : P ⊢ WP c p fun a => WP c (k a) Q) : P ⊢ WP c (p >>= k) Q := by
  unfold WP at h ⊢; rw [wp_bind]; exact h

theorem wp_done {c : Dev nD} {α : Type} {a : α} {Q : α → sProp 𝕄} : Q a ⊢ WP c (pure a) Q := by
  unfold WP; rw [wp_pure]; iintro H; imodintro; iexact H

/-- A loop: what is persistent stays, the invariant moves on, each round takes its own summand and leaves its own. -/
theorem wp_for {c : Dev nD} (R : sProp 𝕄) [BI.Persistent R] : ∀ (n : ℕ) (f : Fin n → Pg F PUnit) (I : ℕ → sProp 𝕄) (A B : Fin n → sProp 𝕄)
    (h : ∀ i : Fin n, iprop(R ∗ I i.val ∗ A i) ⊢ WP c (f i) fun _ => iprop(I (i.val + 1) ∗ B i)),
    iprop(R ∗ I 0 ∗ bigSep Finset.univ A) ⊢ WP c (forP n f) fun _ => iprop(I n ∗ bigSep Finset.univ B)
  | 0, f, I, A, B, h => by
    rw [big_none, big_none]
    unfold forP WP
    iintro ⟨-, HI, HA⟩
    rw [wp_pure]; imodintro
    isplitl [HI]; · iexact HI
    iexact HA
  | n + 1, f, I, A, B, h => by
    rw [big_succ, big_succ]
    unfold forP
    have h0 : iprop(R ∗ I 0 ∗ A 0) ⊢ WP c (f 0) fun _ => iprop(I (0 + 1) ∗ B 0) := h 0
    have hs := wp_for R n (fun i => f i.succ) (fun m => I (m + 1)) (fun i => A i.succ) (fun i => B i.succ) fun i => h i.succ
    refine wp_seq ?_
    iintro ⟨#HR, HI, HA, HB⟩
    iapply (step h0) $$ [HI HA]
    · isplitr; · iexact HR
      isplitl [HI]; · iexact HI
      iexact HA
    iintro ⟨HI, H0⟩
    iapply (wp_wand_r frame _ Set.univ)
    isplitl [HI HB]
    · iapply hs
      isplitr; · iexact HR
      isplitl [HI]; · iexact HI
      iexact HB
    iintro %a ⟨HI, HB⟩
    isplitl [HI]; · iexact HI
    isplitl [H0]; · iexact H0
    iexact HB

/-! ## What is still owed inside a hop -/

/-- Before piece `(k, d)` of hop `n` is passed on, the half outermost. -/
def restS (n k d : ℕ) : Finset Hop := Finset.univ.filter fun p =>
  n < p.2.1.val ∨ (p.2.1.val = n ∧ (k < p.2.2.val ∨ (p.2.2.val = k ∧ d ≤ p.1.val)))
/-- Before piece `(d, k)` of hop `n` is passed on, the direction outermost. -/
def restD (n d k : ℕ) : Finset Hop := Finset.univ.filter fun p =>
  n < p.2.1.val ∨ (p.2.1.val = n ∧ (d < p.1.val ∨ (p.1.val = d ∧ k ≤ p.2.2.val)))

theorem hops_none {n : ℕ} (h : 7 ≤ n) : hops n = ∅ :=
  Finset.filter_eq_empty_iff.mpr fun p _ => by have := p.2.1.isLt; omega
theorem restS_start (n : ℕ) : restS n 0 0 = hops n := by
  ext p; simp only [restS, Finset.mem_filter, Finset.mem_univ, true_and]; omega
theorem restS_row (n k : ℕ) : restS n k 2 = restS n (k + 1) 0 := by
  ext ⟨d, h, s⟩; simp only [restS, Finset.mem_filter, Finset.mem_univ, true_and]; omega
theorem restS_end (n : ℕ) : restS n 2 0 = hops (n + 1) := by
  ext ⟨d, h, s⟩; simp only [restS, Finset.mem_filter, Finset.mem_univ, true_and]; omega
theorem restS_mem (d : Fin 2) (h : Fin 7) (s : Fin 2) : (d, h, s) ∈ restS h.val s.val d.val := by simp [restS]
theorem restS_erase (d : Fin 2) (h : Fin 7) (s : Fin 2) : (restS h.val s.val d.val).erase (d, h, s) = restS h.val s.val (d.val + 1) := by
  ext ⟨d', h', s'⟩
  simp only [restS, Finset.mem_erase, ne_eq, Prod.mk.injEq, Fin.ext_iff, Finset.mem_filter, Finset.mem_univ, true_and]; omega
theorem restS_above (n k d : ℕ) : ∀ p ∈ restS n k d, n ≤ p.2.1.val := fun p hp => by
  simp only [restS, Finset.mem_filter, Finset.mem_univ, true_and] at hp; omega
theorem restS_none {n : ℕ} (h : 7 ≤ n) (k d : ℕ) : restS n k d = ∅ :=
  Finset.filter_eq_empty_iff.mpr fun p _ => by have := p.2.1.isLt; omega
theorem restD_start (n : ℕ) : restD n 0 0 = hops n := by
  ext p; simp only [restD, Finset.mem_filter, Finset.mem_univ, true_and]; omega
theorem restD_row (n d : ℕ) : restD n d 2 = restD n (d + 1) 0 := by
  ext ⟨d, h, s⟩; simp only [restD, Finset.mem_filter, Finset.mem_univ, true_and]; omega
theorem restD_end (n : ℕ) : restD n 2 0 = hops (n + 1) := by
  ext ⟨d, h, s⟩; simp only [restD, Finset.mem_filter, Finset.mem_univ, true_and]; omega
theorem restD_mem (d : Fin 2) (h : Fin 7) (s : Fin 2) : (d, h, s) ∈ restD h.val d.val s.val := by simp [restD]
theorem restD_erase (d : Fin 2) (h : Fin 7) (s : Fin 2) : (restD h.val d.val s.val).erase (d, h, s) = restD h.val d.val (s.val + 1) := by
  ext ⟨d', h', s'⟩
  simp only [restD, Finset.mem_erase, ne_eq, Prod.mk.injEq, Fin.ext_iff, Finset.mem_filter, Finset.mem_univ, true_and]; omega

/-! ## Passing pieces on -/

variable (I : Inp F) (κ : GSem nD τ sig → ℕ) (c : Dev nD)

/-- After a piece was passed on: the transfer under way, or at the last hop the share kept aside. -/
def kept (d s : Fin 2) (h : Fin 7) : sProp 𝕄 :=
  if hh : h.val + 1 < 7 then flyRes c d ⟨h.val + 1, hh⟩ s else mpt c (piece d h s) qR (comC I c d)
/-- What waiting for a piece and passing it on takes. -/
abbrev passIn (h : Fin 7) (s d : Fin 2) : sProp 𝕄 := iprop(recvRes c d h s ∗ next (fun h => sendRes c d h s) h)
/-- What it leaves: the share of the piece kept for the loads, and the transfer under way. -/
abbrev passOut (h : Fin 7) (s d : Fin 2) : sProp 𝕄 :=
  iprop(atPos ER (recvCell c d h s) 1 ∅ 0 ∗ mpt c (piece d h s) qL (comC I c d) ∗ kept I c d s h)

/-- A piece arrives and is passed on from the slot it arrived in, half of its share lent. -/
theorem pass_step (h : Fin 7) (s d : Fin 2) :
    iprop(recs I κ ∗ ow c (restS (h.val + 1) s.val d.val) ∗ passIn c h s d)
      ⊢ WP c (passP c h s d) fun _ => iprop(ow c (restS (h.val + 1) s.val (d.val + 1)) ∗ passOut I c h s d) := by
  have hrecv := recv_step I κ c d h s (restS (h.val + 1) s.val d.val) fun p hp => restS_above _ _ _ p hp
  have hsplit : recvPay I c d h s ⊢ iprop(mpt c (piece d h s) qL (comC I c d) ∗ mpt c (piece d h s) qR (comC I c d)) :=
    (pointsTo_share (PosShare.mem_left_op_right fullShare)).1
  unfold passP passIn passOut
  by_cases hh : h.val + 1 < 7
  · rw [show next (fun h => sendRes (F := F) c d h s) h = sendRes c d ⟨h.val + 1, hh⟩ s from dif_pos hh,
      show kept I c d s h = flyRes c d ⟨h.val + 1, hh⟩ s from dif_pos hh]
    simp only [dif_pos hh]
    refine wp_seq ?_
    iintro ⟨#HR, HO, Hr, Hn⟩
    iapply (step hrecv) $$ [HO Hr]
    · isplitr; · iexact HR
      isplitl [Hr]; · iexact Hr
      iexact HO
    iintro ⟨Hat, Hp, HO⟩
    ihave Hp2 := hsplit $$ Hp
    icases Hp2 with ⟨HL, HQ⟩
    iapply (wp_wand_r frame _ Set.univ)
    isplitl [HO HQ Hn]
    · iapply (send_step I κ c d ⟨h.val + 1, hh⟩ s (restS (h.val + 1) s.val d.val) (restS_mem d ⟨h.val + 1, hh⟩ s))
      isplitr; · iexact HR
      isplitl [Hn]; · iexact Hn
      isplitl [HQ]; · unfold sendPay; iexact HQ
      iexact HO
    iintro %a ⟨Hf, HO⟩
    isplitl [HO]; · iapply (Entails.of_eq (congrArg (ow c) (restS_erase d ⟨h.val + 1, hh⟩ s))); iexact HO
    isplitl [Hat]; · iexact Hat
    isplitl [HL]; · iexact HL
    iexact Hf
  · rw [show next (fun h => sendRes (F := F) c d h s) h = iprop(emp) from dif_neg hh,
      show kept I c d s h = mpt c (piece d h s) qR (comC I c d) from dif_neg hh]
    simp only [dif_neg hh]
    have hS : restS (h.val + 1) s.val d.val = restS (h.val + 1) s.val (d.val + 1) := by rw [restS_none (by omega), restS_none (by omega)]
    refine wp_seq ?_
    iintro ⟨#HR, HO, Hr, -⟩
    iapply (step hrecv) $$ [HO Hr]
    · isplitr; · iexact HR
      isplitl [Hr]; · iexact Hr
      iexact HO
    iintro ⟨Hat, Hp, HO⟩
    ihave Hp2 := hsplit $$ Hp
    icases Hp2 with ⟨HL, HQ⟩
    iapply wp_done
    isplitl [HO]; · iapply (Entails.of_eq (congrArg (ow c) hS)); iexact HO
    isplitl [Hat]; · iexact Hat
    isplitl [HL]; · iexact HL
    iexact HQ

/-- The four pieces of a hop. -/
theorem pass_hop (h : Fin 7) :
    iprop(recs I κ ∗ ow c (hops (h.val + 1)) ∗ bigSep Finset.univ fun s => bigSep Finset.univ fun d => passIn c h s d)
      ⊢ WP c (forP 2 fun s => forP 2 fun d => passP c h s d) fun _ =>
        iprop(ow c (hops (h.val + 2)) ∗ bigSep Finset.univ fun s => bigSep Finset.univ fun d => passOut I c h s d) := by
  rw [← restS_start, ← restS_end]
  refine wp_for (recs I κ) 2 _ (fun k => ow c (restS (h.val + 1) k 0)) _ _ fun s => ?_
  rw [← restS_row]
  exact wp_for (recs I κ) 2 _ (fun k => ow c (restS (h.val + 1) s.val k)) _ _ fun d => pass_step I κ c h s d

/-- The first sends, of the device's own rows. -/
theorem first_sends :
    iprop(recs I κ ∗ ow c (hops 0) ∗ bigSep Finset.univ fun d => bigSep Finset.univ fun s => iprop(sendRes c d 0 s ∗ sendPay I c d 0 s))
      ⊢ WP c (forP 2 fun d => forP 2 fun s => sendP c d 0 s) fun _ =>
        iprop(ow c (hops 1) ∗ bigSep Finset.univ fun d => bigSep Finset.univ fun s => flyRes c d 0 s) := by
  rw [← restD_start, ← restD_end]
  refine wp_for (recs I κ) 2 _ (fun k => ow c (restD 0 k 0)) _ _ fun d => ?_
  rw [← restD_row]
  refine wp_for (recs I κ) 2 _ (fun k => ow c (restD 0 d.val k)) _ _ fun s => ?_
  iintro ⟨#HR, HO, Hs, Hp⟩
  iapply (wp_wand_r frame _ Set.univ)
  isplitl
  · iapply (send_step I κ c d 0 s (restD 0 d.val s.val) (restD_mem d 0 s))
    isplitr; · iexact HR
    isplitl [Hs]; · iexact Hs
    isplitl [Hp]; · iexact Hp
    iexact HO
  iintro %a ⟨Hf, HO⟩
  isplitl [HO]; · iapply (Entails.of_eq (congrArg (ow c) (restD_erase d 0 s))); iexact HO
  iexact Hf

/-- All departures. -/
theorem all_sent :
    iprop(recs I κ ∗ ow c ∅ ∗ bigSep Finset.univ fun d => bigSep Finset.univ fun h => bigSep Finset.univ fun s => flyRes c d h s)
      ⊢ WP c (forP 2 fun d => forP 7 fun h => forP 2 fun s => sentP d h s) fun _ =>
        iprop(ow c ∅ ∗ bigSep Finset.univ fun d => bigSep Finset.univ fun h => bigSep Finset.univ fun s =>
          iprop(atPos ER (sendCell c d h s) 1 ∅ 0 ∗ sendPay I c d h s)) := by
  refine wp_for (recs I κ) 2 _ (fun _ => ow c ∅) _ _ fun d => ?_
  refine wp_for (recs I κ) 7 _ (fun _ => ow c ∅) _ _ fun h => ?_
  refine wp_for (recs I κ) 2 _ (fun _ => ow c ∅) _ _ fun s => ?_
  iintro ⟨#HR, HO, Hf⟩
  iapply (wp_wand_r frame _ Set.univ)
  isplitl
  · iapply (sent_step I κ c d h s)
    isplitr; · iexact HR
    isplitl [Hf]; · iexact Hf
    iexact HO
  iintro %a ⟨Ha, Hp, HO⟩
  isplitl [HO]; · iexact HO
  isplitl [Ha]; · iexact Ha
  iexact Hp

end Cert.KernelIdeal.Proof

end
-- ==== Proof.Parts.lean ====
/- How the buffers are cut into the parts the transfers and the loads name. -/
module

public import proofs.«01_k».proof.Proof.Protocol

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds
open Cert.KernelIdeal.Gen

variable {F : FTy → Type} [FloatOps F]

local notation "𝕄" => MM F

/-! ## Cutting a buffer by a key -/

section Cut

variable {ℓ : Loc nD τ sig} {ι α : Type} [Fintype ι] {S : Finset (Idx ℓ)} {K : ι → Finset (Idx ℓ)} (key : Idx ℓ → α) (e : ι → α)
  (he : Function.Injective e) (hs : ∀ i ∈ S, ∃ p, e p = key i) (hK : ∀ p i, i ∈ K p ↔ i ∈ S ∧ e p = key i)

include he hK in
theorem cut_disjoint (p p' : ι) (h : p ≠ p') : Disjoint (K p) (K p') :=
  Finset.disjoint_left.mpr fun i hi hi' => h (he (((hK p i).mp hi).2.trans ((hK p' i).mp hi').2.symm))
include hs hK in
theorem cut_cover [DecidableEq (Idx ℓ)] : Finset.univ.biUnion K = S := by
  ext i
  rw [Finset.mem_biUnion]
  refine ⟨fun ⟨p, _, h⟩ => ((hK p i).mp h).1, fun h => ?_⟩
  obtain ⟨p, hp⟩ := hs i h
  exact ⟨p, Finset.mem_univ _, (hK p i).mpr ⟨h, hp⟩⟩

include he hs hK in
/-- The parts of a buffer on which a key takes each of its values are the buffer. -/
theorem pts_cut (q : PosShare TreeShare) (f : Buf (Elt F) ℓ) : (ℓ ↦[S]{q} f : sProp 𝕄) = bigSep Finset.univ fun p => ℓ ↦[K p]{q} f := by
  classical
  rw [← pointsTo_biUnion Finset.univ K fun p _ p' _ h => cut_disjoint key e he hK p p' h, cut_cover key e hs hK]
include he hs hK in
/-- Parts held at contents of their own are the buffer at some contents. -/
theorem pts_join (q : PosShare TreeShare) (f₀ : Buf (Elt F) ℓ) :
    (bigSep Finset.univ fun p => iprop(∃ f, ℓ ↦[K p]{q} f) : sProp 𝕄) ⊢ iprop(∃ f, ℓ ↦[S]{q} f) := by
  classical
  have : Nonempty (Buf (Elt F) ℓ) := ⟨f₀⟩
  refine (bigSep_exists_pi Finset.univ (fun p (f : Buf (Elt F) ℓ) => (ℓ ↦[K p]{q} f : sProp 𝕄))).trans ?_
  have h (fs : ι → Buf (Elt F) ℓ) : (bigSep Finset.univ fun p => ℓ ↦[K p]{q} fs p : sProp 𝕄) ⊢ _ :=
    pointsTo_biUnion_join Finset.univ K fs f₀ fun p _ p' _ h => cut_disjoint key e he hK p p' h
  iintro ⟨%fs, H⟩
  ihave H2 := (h fs) $$ H
  icases H2 with ⟨%g, -, H3⟩
  iexists g
  rw [cut_cover key e hs hK]
  iexact H3
end Cut

/-! ## Rows of a rectangle -/

theorem rows2 {A B o n : ℕ} {inb} {i : (⟨2, ![A, B]⟩ : Shape).Idx} :
    i ∈ (Rect.unit (s := ⟨2, ![A, B]⟩) ![o, 0] ![n, B] inb).set ↔ o ≤ (i 0).val ∧ (i 0).val < o + n := by
  rw [Rect.mem_set_unit]
  have h1 : (i 1).val < B := (i 1).isLt
  refine ⟨fun h => h 0, fun h a => ?_⟩
  match a with
  | ⟨0, _⟩ => exact h
  | ⟨1, _⟩ => exact ⟨Nat.zero_le _, by show (i 1).val < 0 + B; omega⟩
theorem rows3 {A B C a b n : ℕ} {inb} {i : (⟨3, ![A, B, C]⟩ : Shape).Idx} :
    i ∈ (Rect.unit (s := ⟨3, ![A, B, C]⟩) ![a, b, 0] ![1, n, C] inb).set ↔ (i 0).val = a ∧ b ≤ (i 1).val ∧ (i 1).val < b + n := by
  rw [Rect.mem_set_unit]
  have h2 : (i 2).val < C := (i 2).isLt
  refine ⟨fun h => ?_, fun ⟨h0, h1⟩ x => ?_⟩
  · have h0 : a ≤ (i 0).val ∧ (i 0).val < a + 1 := h 0
    exact ⟨by omega, h 1⟩
  · match x with
    | ⟨0, _⟩ => show a ≤ (i 0).val ∧ (i 0).val < a + 1; omega
    | ⟨1, _⟩ => exact h1
    | ⟨2, _⟩ => exact ⟨Nat.zero_le _, by show (i 2).val < 0 + C; omega⟩

/-! ## The buffers' parts -/

/-- Rows `256 d …` of the device's block of x. -/
abbrev xHalf (d : Fin 2) : Memref sig .tc .vmem S256x4096 .fp8e5m2 := xM.slice (xHalfR d) (fun _ => rfl)
/-- Slot `h` of a receive buffer. -/
abbrev slotV (d : Fin 2) (h : Fin 7) : Memref sig .tc .vmem S1x256x4096 .fp8e5m2 := (comM d).slice (chunkR h) (fun _ => rfl)
/-- Rows `512 i …` of the narrowed weights. -/
abbrev wbV (i : Fin 8) : Memref sig .tc .vmem S512x1024 .bf16 := wbM.slice (wbR i) (fun _ => rfl)

variable (c : Dev nD) (q : PosShare TreeShare)

theorem pair_inj {n m : ℕ} : Function.Injective fun p : Fin n × Fin m => (p.1.val, p.2.val) := fun p p' h =>
  Prod.ext (Fin.ext (congrArg Prod.fst h)) (Fin.ext (congrArg Prod.snd h))
theorem pair_cover {n m a b : ℕ} (ha : a < n) (hb : b < m) : ∃ p : Fin n × Fin m, (p.1.val, p.2.val) = (a, b) := ⟨(⟨a, ha⟩, ⟨b, hb⟩), rfl⟩

abbrev pieceSet (h : Fin 7) (s : Fin 2) : Finset S7x256x4096.Idx := (Rect.unit (s := S7x256x4096) ![h.val, 128 * s.val, 0] S1x128x4096.size (pieceInb h s)).set
abbrev slotSet (h : Fin 7) : Finset S7x256x4096.Idx := (chunkR h).set
theorem pieceSet_mem (p : Fin 7 × Fin 2) (i : S7x256x4096.Idx) :
    i ∈ pieceSet p.1 p.2 ↔ i ∈ (Finset.univ : Finset S7x256x4096.Idx) ∧ (p.1.val, p.2.val) = ((i 0).val, (i 1).val / 128) := by
  rw [rows3, Prod.mk.injEq]
  have h1 := p.2.isLt
  refine ⟨fun h => ⟨Finset.mem_univ _, by omega⟩, fun ⟨_, h⟩ => by omega⟩
theorem piece_slot_mem (h : Fin 7) (s : Fin 2) (i : S7x256x4096.Idx) : i ∈ pieceSet h s ↔ i ∈ slotSet h ∧ s.val = (i 1).val / 128 := by
  rw [rows3, rows3]
  have h1 := s.isLt
  have h2 : (i 1).val < 256 := (i 1).isLt
  omega
theorem piece_set0 (h : Fin 7) (s : Fin 2) : (piece 0 h s).view.set = pieceSet h s :=
  (View.set_reshape ..).trans (View.set_slice_whole ..)
theorem piece_set1 (h : Fin 7) (s : Fin 2) : (piece 1 h s).view.set = pieceSet h s :=
  (View.set_reshape ..).trans (View.set_slice_whole ..)

theorem com_bound (i : S7x256x4096.Idx) : (i 0).val < 7 ∧ (i 1).val / 128 < 2 :=
  ⟨(i 0).isLt, by have : (i 1).val < 256 := (i 1).isLt; omega⟩

/-- A receive buffer is its pieces. -/
theorem com_cut (c : Dev nD) (q : PosShare TreeShare) : ∀ (d : Fin 2) (f : Buf (Elt F) ((comM d).view.loc (c : Thread nD τ))),
    (mpt c (comM d) q f : sProp 𝕄) = bigSep Finset.univ fun p : Fin 7 × Fin 2 => mpt c (piece d p.1 p.2) q f
  | 0, f => pts_cut (ℓ := (comM 0).view.loc (c : Thread nD τ)) (fun i : S7x256x4096.Idx => ((i 0).val, (i 1).val / 128)) _ pair_inj
      (fun i _ => pair_cover (com_bound i).1 (com_bound i).2) (fun p i => by rw [piece_set0, View.set_whole]; exact pieceSet_mem p i) q f
  | 1, f => pts_cut (ℓ := (comM 1).view.loc (c : Thread nD τ)) (fun i : S7x256x4096.Idx => ((i 0).val, (i 1).val / 128)) _ pair_inj
      (fun i _ => pair_cover (com_bound i).1 (com_bound i).2) (fun p i => by rw [piece_set1, View.set_whole]; exact pieceSet_mem p i) q f

/-- A slot is its two pieces. -/
theorem slot_cut (c : Dev nD) (q : PosShare TreeShare) (h : Fin 7) : ∀ (d : Fin 2) (f : Buf (Elt F) ((comM d).view.loc (c : Thread nD τ))),
    (mpt c (slotV d h) q f : sProp 𝕄) = bigSep Finset.univ fun s : Fin 2 => mpt c (piece d h s) q f
  | 0, f => pts_cut (ℓ := (comM 0).view.loc (c : Thread nD τ)) (fun i : S7x256x4096.Idx => (i 1).val / 128) (fun s : Fin 2 => s.val) Fin.val_injective
      (fun i _ => ⟨⟨_, (com_bound i).2⟩, rfl⟩) (fun s i => by rw [piece_set0, View.set_slice_whole]; exact piece_slot_mem h s i) q f
  | 1, f => pts_cut (ℓ := (comM 1).view.loc (c : Thread nD τ)) (fun i : S7x256x4096.Idx => (i 1).val / 128) (fun s : Fin 2 => s.val) Fin.val_injective
      (fun i _ => ⟨⟨_, (com_bound i).2⟩, rfl⟩) (fun s i => by rw [piece_set1, View.set_slice_whole]; exact piece_slot_mem h s i) q f

/-- The block of x is the pieces it is sent in. -/
theorem x_cut (c : Dev nD) (q : PosShare TreeShare) (f : Buf (Elt F) (xM.view.loc (c : Thread nD τ))) :
    (mpt c xM q f : sProp 𝕄) = bigSep Finset.univ fun p : Fin 2 × Fin 2 => mpt c (xPiece p.1 p.2) q f :=
  pts_cut (ℓ := xM.view.loc (c : Thread nD τ)) (fun i : S512x4096.Idx => ((i 0).val / 256, (i 0).val / 128 % 2)) _ pair_inj
    (fun i _ => pair_cover (by have : (i 0).val < 512 := (i 0).isLt; omega) (by omega))
    (fun p i => by
      rw [View.set_slice_whole, View.set_whole, rows2, Prod.mk.injEq]
      have := p.1.isLt; have := p.2.isLt
      exact ⟨fun h => ⟨Finset.mem_univ _, by omega⟩, fun ⟨_, h⟩ => by omega⟩) q f
/-- The block of x is its halves. -/
theorem x_halves (c : Dev nD) (q : PosShare TreeShare) (f : Buf (Elt F) (xM.view.loc (c : Thread nD τ))) :
    (mpt c xM q f : sProp 𝕄) = bigSep Finset.univ fun d : Fin 2 => mpt c (xHalf d) q f :=
  pts_cut (ℓ := xM.view.loc (c : Thread nD τ)) (fun i : S512x4096.Idx => (i 0).val / 256) (fun d : Fin 2 => d.val) Fin.val_injective
    (fun i _ => ⟨⟨_, by have : (i 0).val < 512 := (i 0).isLt; omega⟩, rfl⟩)
    (fun d i => by
      rw [View.set_slice_whole, View.set_whole, rows2]
      exact ⟨fun h => ⟨Finset.mem_univ _, by omega⟩, fun ⟨_, h⟩ => by omega⟩) q f

/-- Which slice of the weights a row is in. -/
theorem w_slice (i : S4096x1024.Idx) : ∃ k : Fin 8, k.val = (i 0).val / 512 := ⟨⟨_, by have : (i 0).val < 4096 := (i 0).isLt; omega⟩, rfl⟩
theorem w_mem (k : Fin 8) (i : S4096x1024.Idx) : i ∈ (wbR k).set ↔ i ∈ (Finset.univ : Finset S4096x1024.Idx) ∧ k.val = (i 0).val / 512 := by
  rw [rows2]
  exact ⟨fun h => ⟨Finset.mem_univ _, by omega⟩, fun ⟨_, h⟩ => by omega⟩
/-- The weights are their slices. -/
theorem w_cut (c : Dev nD) (q : PosShare TreeShare) (f : Buf (Elt F) (wM.view.loc (c : Thread nD τ))) :
    (mpt c wM q f : sProp 𝕄) = bigSep Finset.univ fun k : Fin 8 => mpt c (wV k) q f :=
  pts_cut (ℓ := wM.view.loc (c : Thread nD τ)) (fun i : S4096x1024.Idx => (i 0).val / 512) (fun k : Fin 8 => k.val) Fin.val_injective
    (fun i _ => w_slice i) (fun k i => by rw [View.set_slice_whole, View.set_whole]; exact w_mem k i) q f
/-- So are the narrowed weights. -/
theorem wb_cut (c : Dev nD) (q : PosShare TreeShare) (f : Buf (Elt F) (wbM.view.loc (c : Thread nD τ))) :
    (mpt c wbM q f : sProp 𝕄) = bigSep Finset.univ fun k : Fin 8 => mpt c (wbV k) q f :=
  pts_cut (ℓ := wbM.view.loc (c : Thread nD τ)) (fun i : S4096x1024.Idx => (i 0).val / 512) (fun k : Fin 8 => k.val) Fin.val_injective
    (fun i _ => w_slice i) (fun k i => by rw [View.set_slice_whole, View.set_whole]; exact w_mem k i) q f

theorem buf_mem (k : Fin 2) (i : S2x512x1024.Idx) : i ∈ (bufV k).view.set ↔ i ∈ bufM.view.set ∧ k.val = (i 0).val := by
  rw [View.set_reshape, View.set_slice_whole, View.set_whole, rows3]
  have h1 : (i 1).val < 512 := (i 1).isLt
  exact ⟨fun h => ⟨Finset.mem_univ _, h.1.symm⟩, fun ⟨_, h⟩ => ⟨h.symm, Nat.zero_le _, by omega⟩⟩
/-- The staging of the weights is its two slots. -/
theorem buf_cut (c : Dev nD) (q : PosShare TreeShare) (f : Buf (Elt F) (bufM.view.loc (c : Thread nD τ))) :
    (mpt c bufM q f : sProp 𝕄) = bigSep Finset.univ fun k : Fin 2 => mpt c (bufV k) q f :=
  pts_cut (ℓ := bufM.view.loc (c : Thread nD τ)) (fun i : S2x512x1024.Idx => (i 0).val) (fun k : Fin 2 => k.val) Fin.val_injective
    (fun i _ => ⟨i 0, rfl⟩) buf_mem q f
theorem buf_join (c : Dev nD) (q : PosShare TreeShare) (f₀ : Buf (Elt F) (bufM.view.loc (c : Thread nD τ))) :
    (bigSep Finset.univ fun k : Fin 2 => iprop(∃ f, mpt (F := F) c (bufV k) q f) : sProp 𝕄) ⊢ iprop(∃ f, mpt c bufM q f) :=
  pts_join (ℓ := bufM.view.loc (c : Thread nD τ)) (fun i : S2x512x1024.Idx => (i 0).val) (fun k : Fin 2 => k.val) Fin.val_injective
    (fun i _ => ⟨i 0, rfl⟩) buf_mem q f₀

theorem st_mem (k : Fin 2) (i : S2x256x1024.Idx) : i ∈ (stV k).view.set ↔ i ∈ stM.view.set ∧ k.val = (i 0).val := by
  rw [View.set_reshape, View.set_slice_whole, View.set_whole, rows3]
  have h1 : (i 1).val < 256 := (i 1).isLt
  exact ⟨fun h => ⟨Finset.mem_univ _, h.1.symm⟩, fun ⟨_, h⟩ => ⟨h.symm, Nat.zero_le _, by omega⟩⟩
/-- The staging of the result is its two slots. -/
theorem st_cut (c : Dev nD) (q : PosShare TreeShare) (f : Buf (Elt F) (stM.view.loc (c : Thread nD τ))) :
    (mpt c stM q f : sProp 𝕄) = bigSep Finset.univ fun k : Fin 2 => mpt c (stV k) q f :=
  pts_cut (ℓ := stM.view.loc (c : Thread nD τ)) (fun i : S2x256x1024.Idx => (i 0).val) (fun k : Fin 2 => k.val) Fin.val_injective
    (fun i _ => ⟨i 0, rfl⟩) st_mem q f
theorem st_join (c : Dev nD) (q : PosShare TreeShare) (f₀ : Buf (Elt F) (stM.view.loc (c : Thread nD τ))) :
    (bigSep Finset.univ fun k : Fin 2 => iprop(∃ f, mpt (F := F) c (stV k) q f) : sProp 𝕄) ⊢ iprop(∃ f, mpt c stM q f) :=
  pts_join (ℓ := stM.view.loc (c : Thread nD τ)) (fun i : S2x256x1024.Idx => (i 0).val) (fun k : Fin 2 => k.val) Fin.val_injective
    (fun i _ => ⟨i 0, rfl⟩) st_mem q f₀

/-! ## The blocks of the result -/

/-- Direction `d`'s block of hop `h` holds the rows of the device `h` places upstream. -/
theorem outOff_eq : ∀ (c : Dev nD) (d : Fin 2) (h : Fin 8), outOff c d h = ![512 * (org c d h.val).val + 256 * d.val, 0] := by decide +kernel
/-- The blocks of a device's result are all different. -/
theorem block_inj : ∀ (c : Dev nD), Function.Injective fun p : Fin 2 × Fin 8 => 2 * (org c p.1 p.2.val).val + p.1.val := by decide +kernel
/-- Every block of the result is some hop's. -/
theorem block_cover : ∀ (c : Dev nD) (k : Fin 16), ∃ p : Fin 2 × Fin 8, 2 * (org c p.1 p.2.val).val + p.1.val = k.val := by decide +kernel

theorem out_mem (c : Dev nD) (p : Fin 2 × Fin 8) (i : S4096x1024.Idx) :
    i ∈ (outV c p.1 p.2).view.set ↔ i ∈ oM.view.set ∧ 2 * (org c p.1 p.2.val).val + p.1.val = (i 0).val / 256 := by
  have h : i ∈ (outV c p.1 p.2).view.set ↔ outOff c p.1 p.2 0 ≤ (i 0).val ∧ (i 0).val < outOff c p.1 p.2 0 + 256 := by
    rw [View.set_slice_whole, Rect.mem_set_unit]
    refine ⟨fun h => h 0, fun h a => ?_⟩
    match a with
    | ⟨0, _⟩ => exact h
    | ⟨1, _⟩ =>
      have h1 : (i 1).val < 1024 := (i 1).isLt
      have h2 : outOff c p.1 p.2 1 = 0 := by rw [outOff_eq]; rfl
      show outOff c p.1 p.2 1 ≤ (i 1).val ∧ (i 1).val < outOff c p.1 p.2 1 + 1024
      omega
  have h2 : outOff c p.1 p.2 0 = 512 * (org c p.1 p.2.val).val + 256 * p.1.val := by rw [outOff_eq]; rfl
  rw [h, h2, View.set_whole]
  have := p.1.isLt
  exact ⟨fun h => ⟨Finset.mem_univ _, by omega⟩, fun ⟨_, h⟩ => by omega⟩
/-- The result is its blocks. -/
theorem out_cut (c : Dev nD) (q : PosShare TreeShare) (f : Buf (Elt F) (oM.view.loc (c : Thread nD τ))) :
    (mpt c oM q f : sProp 𝕄) = bigSep Finset.univ fun p : Fin 2 × Fin 8 => mpt c (outV c p.1 p.2) q f :=
  pts_cut (ℓ := oM.view.loc (c : Thread nD τ)) (fun i : S4096x1024.Idx => (i 0).val / 256) _ (block_inj c)
    (fun i _ => block_cover c ⟨_, by have : (i 0).val < 4096 := (i 0).isLt; omega⟩) (out_mem c) q f

end Cert.KernelIdeal.Proof

end
-- ==== Proof.Local.lean ====
/- The local copies and the computation: the slices of the weights and the blocks of the result, each once for every index. -/
module

public import proofs.«01_k».proof.Proof.Loops
public import proofs.«01_k».proof.Proof.Parts

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds Idealize.ShloMosaic.Transfers
open Cert.KernelIdeal.Gen

variable {F : FTy → Type} [FloatOps F]

local notation "𝕄" => MM F

/-! ## Contents -/

section Contents

variable (I : Inp F) (c : Dev nD)

/-- The weights narrowed. -/
def wbC : Vec F S4096x1024 .bf16 := truncf .bf16 (I.w c : FVec F S4096x1024 .f32) bitsLt_bf16_f32
/-- The staging of the weights when slice `i` is in it. -/
def bufC (i : Fin 8) : Vec F S2x512x1024 .f32 := fun j =>
  I.w c (ix2 ⟨512 * i.val + (j 1).val, by have : (j 1).val < 512 := (j 1).isLt; omega⟩ (j 2))
/-- Half `d` of a device's rows of x. -/
def rowsV (d : Fin 2) : FVec F S256x4096 .fp8e5m2 := fun x => I.x c (ix2 ⟨256 * d.val + (x 0).val, half_lt d (x 0)⟩ (x 1))
/-- The product of the two scales. -/
def scal : F .f32 := Scalar.mulf (I.sx c (ix1 0)) (I.sw c (ix1 0))
/-- The block of the result made of half `d` of device `e`'s rows. -/
def blockC (e : Dev nD) (d : Fin 2) : FVec F S256x1024 .bf16 := blockPay (scal I c) (rowsV I e d) (wbC I c)
/-- The result: row `512 e + 256 d + r` is row `r` of the block of device `e`'s half `d`. -/
def outC : Vec F S4096x1024 .bf16 := fun i =>
  blockC I c ⟨(i 0).val / 512, by have : (i 0).val < 4096 := (i 0).isLt; show _ < 8; omega⟩ ⟨(i 0).val / 256 % 2, Nat.mod_lt _ (by decide)⟩
    (ix2 ⟨(i 0).val % 256, Nat.mod_lt _ (by decide)⟩ (i 1))

theorem bufV_idx (k : Fin 2) (x : S512x1024.Idx) (hn) :
    (bufR k).emb (Shape.reshapeEquiv (s := S1x512x1024) (s' := S512x1024) hn x) = ix3 k (x 0) (x 1) := by
  rw [Shape.reshapeEquiv_cons_one (n := 2) (d := ![512, 1024])]
  funext a
  refine Fin.ext ?_
  match a with
  | ⟨0, _⟩ => show k.val + 1 * 0 = k.val; omega
  | ⟨1, _⟩ => show 0 + 1 * (x 0).val = (x 0).val; omega
  | ⟨2, _⟩ => show 0 + 1 * (x 1).val = (x 1).val; omega
theorem wbR_idx (i : Fin 8) (x : S512x1024.Idx) :
    (wbR i).emb x = ix2 (⟨512 * i.val + (x 0).val, by have : (x 0).val < 512 := (x 0).isLt; omega⟩ : Fin 4096) (x 1) := by
  funext a
  refine Fin.ext ?_
  match a with
  | ⟨0, _⟩ => show 512 * i.val + 1 * (x 0).val = 512 * i.val + (x 0).val; omega
  | ⟨1, _⟩ => show 0 + 1 * (x 1).val = (x 1).val; omega

/-- A slice of the weights lands as the staging is to hold it. -/
theorem w_landed (i : Fin 8) (k : Fin 2) (fd : Buf (Elt F) ((bufV k).view.loc (c : Thread nD τ))) :
    (mpt c (bufV k) fullShare ((bufV k).view.write (Elt F) fd ((wV i).view.read (Elt F) (I.w c)) Finset.univ) : sProp 𝕄)
      = mpt c (bufV k) fullShare (bufC I c i) :=
  pointsTo_congr (agree_of_read (F := F) (bufV k).view (by
    rw [View.read_write_univ]; funext x
    show I.w c ((wbR i).emb x) = bufC I c i ((bufR k).emb (Shape.reshapeEquiv (s := S1x512x1024) (s' := S512x1024) _ x))
    rw [bufV_idx, wbR_idx]; rfl))

/-- What is stored of it is the narrowed weights. -/
theorem wb_landed (i : Fin 8) (k : Fin 2) (g : Buf (Elt F) ((wbV i).view.loc (c : Thread nD τ))) :
    (mpt c (wbV i) fullShare ((wbM.access (wbR i)).write (Elt F) g (wPay ((bufM.access (bufR k)).read (Elt F) (bufC I c i))) Finset.univ) : sProp 𝕄)
      = mpt c (wbV i) fullShare (wbC I c) :=
  pointsTo_congr (agree_of_read (F := F) (wbV i).view (by
    rw [View.read_write_univ]; funext x
    unfold wPay
    rw [shapeCast_self]
    show FloatOps.truncf _ bitsLt_bf16_f32 (bufC I c i ((bufR k).emb (Shape.reshapeEquiv (s := S1x512x1024) (s' := S512x1024) _ x))) = FloatOps.truncf _ bitsLt_bf16_f32 (I.w c ((wbR i).emb x))
    rw [bufV_idx, wbR_idx]; rfl))

theorem chunk_idx (h : Fin 7) (x : S256x4096.Idx) (hn) :
    (chunkR h).emb (Shape.reshapeEquiv (s := S1x256x4096) (s' := S256x4096) hn x) = ix3 h (x 0) (x 1) := by
  rw [Shape.reshapeEquiv_cons_one (n := 2) (d := ![256, 4096])]
  funext a
  refine Fin.ext ?_
  match a with
  | ⟨0, _⟩ => show h.val + 1 * 0 = h.val; omega
  | ⟨1, _⟩ => show 0 + 1 * (x 0).val = (x 0).val; omega
  | ⟨2, _⟩ => show 0 + 1 * (x 1).val = (x 1).val; omega
/-- A slot, loaded, is half of the rows of the device it came from. -/
theorem chunk_read (h : Fin 7) : ∀ d : Fin 2,
    shapeCast S256x4096 (((comM d).access (chunkR h)).read (Elt F) (comC I c d)) shapeCasts_S1x256x4096_S256x4096 = rowsV I (org c d (h.val + 1)) d
  | 0 => by
    funext x
    show comV I c 0 ((chunkR h).emb (Shape.reshapeEquiv (s := S1x256x4096) (s' := S256x4096) _ x)) = _
    rw [chunk_idx]; rfl
  | 1 => by
    funext x
    show comV I c 1 ((chunkR h).emb (Shape.reshapeEquiv (s := S1x256x4096) (s' := S256x4096) _ x)) = _
    rw [chunk_idx]; rfl
/-- So is half of the device's own block. -/
theorem half_read (d : Fin 2) :
    shapeCast S256x4096 ((xM.access (xHalfR d)).read (Elt F) (I.x c)) shapeCasts_S256x4096_S256x4096 = rowsV I c d := by
  refine (shapeCast_self (s := S256x4096) _ _).trans ?_
  funext x
  show I.x c ((xHalfR d).emb x) = I.x c _
  refine congrArg (I.x c) ?_
  funext a
  refine Fin.ext ?_
  match a with
  | ⟨0, _⟩ => show 256 * d.val + 1 * (x 0).val = 256 * d.val + (x 0).val; omega
  | ⟨1, _⟩ => show 0 + 1 * (x 1).val = (x 1).val; omega

/-- What a block leaves in its stage is the block, and it lands in its rows of the result. -/
theorem out_landed (d : Fin 2) (h : Fin 8) (f : Buf (Elt F) (stM.view.loc (c : Thread nD τ))) (fd : Buf (Elt F) ((outV c d h).view.loc (c : Thread nD τ))) :
    (mpt c (outV c d h) fullShare ((outV c d h).view.write (Elt F) fd ((stV d).view.read (Elt F)
        ((stM.access (stR d)).write (Elt F) f (shapeCast S1x256x1024 (blockC I c (org c d h.val) d) shapeCasts_S256x1024_S1x256x1024) Finset.univ)) Finset.univ) : sProp 𝕄)
      = mpt c (outV c d h) fullShare (outC I c) :=
  pointsTo_congr (agree_of_read (F := F) (outV c d h).view (by
    rw [View.read_write_univ]; funext x
    have h1 : (stV d).view.read (Elt F) ((stM.access (stR d)).write (Elt F) f (shapeCast S1x256x1024 (blockC I c (org c d h.val) d) shapeCasts_S256x1024_S1x256x1024) Finset.univ) x
        = (stM.access (stR d)).read (Elt F) ((stM.access (stR d)).write (Elt F) f (shapeCast S1x256x1024 (blockC I c (org c d h.val) d) shapeCasts_S256x1024_S1x256x1024) Finset.univ)
          (Shape.reshapeEquiv (s := S1x256x1024) (s' := S256x1024) (by decide) x) := rfl
    rw [h1, View.read_write_univ]
    have e (h1) (h2) : Shape.reshapeEquiv (s := S256x1024) (s' := S1x256x1024) h1 (Shape.reshapeEquiv (s := S1x256x1024) (s' := S256x1024) h2 x) = x := by
      rw [Shape.reshapeEquiv_reshapeEquiv, Shape.reshapeEquiv_self]
    refine (congrArg (blockC I c (org c d h.val) d) (e _ _)).trans ?_
    show _ = outC I c ((Rect.unit (s := S4096x1024) (outOff c d h) S256x1024.size (outInb c d h)).emb x)
    have hx0 : (x 0).val < 256 := (x 0).isLt
    have hd := d.isLt
    have hx : (Rect.unit (s := S4096x1024) (outOff c d h) S256x1024.size (outInb c d h)).emb x
        = ix2 (⟨512 * (org c d h.val).val + 256 * d.val + (x 0).val, by have : (org c d h.val).val < 8 := (org c d h.val).isLt; omega⟩ : Fin 4096) (x 1) := by
      funext a
      refine Fin.ext ?_
      match a with
      | ⟨0, _⟩ => show outOff c d h 0 + 1 * (x 0).val = 512 * (org c d h.val).val + 256 * d.val + (x 0).val; rw [congrFun (outOff_eq c d h) 0, Nat.one_mul]; rfl
      | ⟨1, _⟩ => show outOff c d h 1 + 1 * (x 1).val = (x 1).val; rw [congrFun (outOff_eq c d h) 1, Nat.one_mul]; exact Nat.zero_add _
    rw [hx]
    have key (e' : Dev nD) (d' : Fin 2) (r : Fin 256) (h1 : e' = org c d h.val) (h2 : d' = d) (h3 : r = x 0) :
        blockC I c (org c d h.val) d x = blockC I c e' d' (ix2 r (x 1)) := by
      subst h1 h2 h3; exact congrArg _ (ix2_eta x).symm
    exact key _ _ _
      (Fin.ext (by show (512 * (org c d h.val).val + 256 * d.val + (x 0).val) / 512 = _; omega))
      (Fin.ext (by show (512 * (org c d h.val).val + 256 * d.val + (x 0).val) / 256 % 2 = _; omega))
      (Fin.ext (by show (512 * (org c d h.val).val + 256 * d.val + (x 0).val) % 256 = _; omega))))

end Contents

/-! ## Loads and stores -/

/-- Use a triple at the head of a program. -/
theorem bind_step {c : Dev nD} {α β : Type} {p : Pg F α} {k : α → Pg F β} {P : sProp 𝕄} {Q : α → sProp 𝕄} {K : β → sProp 𝕄} (h : P ⊢ WP c p Q) :
    P ⊢ iprop((∀ a, Q a -∗ WP c (k a) K) -∗ WP c (p >>= k) K) := by
  have hb : WP c (p >>= k) K = WP c p fun a => WP c (k a) K := by unfold WP; rw [wp_bind]
  rw [hb]
  refine h.trans ?_
  iintro Hw Hk
  iapply (wp_wand_r frame _ Set.univ)
  isplitl [Hw]; · iexact Hw
  iintro %a HQ
  iapply Hk; iexact HQ

/-- A load gives what the buffer holds and leaves it. -/
theorem load_step {c : Dev nD} {cs : CoreSpace} {s : Shape} {e : EltTy} {m : Memref sig .tc cs s e} {r : Rect s} {hl : m.view.LoadsAt r.toLoadRect}
    {S : Finset (Idx ((m.access r).loc (c : Thread nD τ)))} {q : PosShare TreeShare} {f : Buf (Elt F) ((m.access r).loc (c : Thread nD τ))} (hS : (m.access r).set ⊆ S) :
    ((m.access r).loc (c : Thread nD τ) ↦[S]{q} f : sProp 𝕄)
      ⊢ WP c (Prog.lift (.load m r.toLoadRect hl)) fun v => iprop(⌜v = (m.access r).read (Elt F) f⌝ ∗ (m.access r).loc (c : Thread nD τ) ↦[S]{q} f) := by
  iintro H
  iapply (wp_load_rect (c := (c : Thread nD τ)) 𝒱₀ none Set.univ (m := m) (r := r) hS) $$ [H]
  · iexact H
  iintro H
  rw [wp_ret]; imodintro
  isplitr; · ipureintro; rfl
  iexact H

/-- A store replaces what its rectangle holds. -/
theorem store_step {c : Dev nD} {cs : CoreSpace} {s : Shape} {e : EltTy} {m : Memref sig .tc cs s e} {r : Rect s} {w : r.shape.Idx → Elt F e} {hx : (m.access r).Stores Finset.univ}
    {hm : Finset.univ = Finset.univ ∨ ∀ a, r.stride a = 1}
    {S : Finset (Idx ((m.access r).loc (c : Thread nD τ)))} {f : Buf (Elt F) ((m.access r).loc (c : Thread nD τ))} (hS : (m.access r).set ⊆ S) :
    ((m.access r).loc (c : Thread nD τ) ↦[S]{fullShare} f : sProp 𝕄)
      ⊢ WP c (Prog.lift (.store m r w Finset.univ hx hm)) fun _ => iprop((m.access r).loc (c : Thread nD τ) ↦[S]{fullShare} ((m.access r).write (Elt F) f w Finset.univ)) := by
  iintro H
  iapply (wp_store (c := (c : Thread nD τ)) 𝒱₀ none Set.univ (m := m) (r := r) hS) $$ [H]
  · iexact H
  iintro H
  rw [wp_ret]; imodintro
  iexact H

/-! ## The weights -/

variable (I : Inp F) (κ : GSem nD τ sig → ℕ) (c : Dev nD)

/-- The credit of one slice of the weights, and of one block of the result. -/
abbrev Nw : ℕ := (bufV 0).view.dmaCredit
abbrev No : ℕ := (outV 0 0 0).view.dmaCredit
theorem buf_credit (k : Fin 2) : (bufV k).view.dmaCredit = Nw := rfl
theorem out_credit (c : Dev nD) (d : Fin 2) (h : Fin 8) : (outV c d h).view.dmaCredit = No := rfl
theorem Nw_pos : 0 < Nw := View.dmaCredit_pos _ (by decide)
theorem No_pos : 0 < No := View.dmaCredit_pos _ (by decide)

/-- What a slice of the weights brings: its staging slot filled, and the slice back. -/
abbrev wDone (i : Fin 8) : sProp 𝕄 := iprop(mpt c (bufV (slot i)) fullShare (bufC I c i) ∗ mpt c (wV i) fullShare (I.w c))
/-- A staging slot at rest. -/
abbrev wIdle (k : Fin 2) : sProp 𝕄 := iprop(semVal ((c : Thread nD τ), .dma (wS k)) 0 ∗ ∃ f, mpt (F := F) c (bufV k) fullShare f)
abbrev wFlight (i : Fin 8) : sProp 𝕄 := Flight EC (c : Thread nD τ) (.dma (wS (slot i))) () Nw (wDone I c i)

/-- Starting the copy of a slice. -/
theorem wStart_step (i : Fin 8) :
    iprop(wIdle c (slot i) ∗ mpt c (wV i) fullShare (I.w c)) ⊢ WP c (wStartP i) fun _ => wFlight I c i := by
  unfold wStartP
  have hm (fd) := Flight_mono (c := (c : Thread nD τ)) EC (sm := .dma (wS (slot i))) (ι := ()) (N := Nw)
    (D := iprop(mpt c (bufV (slot i)) fullShare ((bufV (slot i)).view.write (Elt F) fd ((wV i).view.read (Elt F) (I.w c)) Finset.univ) ∗ mpt c (wV i) fullShare (I.w c)))
    (D' := wDone I c i) (by rw [w_landed])
  iintro ⟨⟨Hv, ⟨%fd, Hd⟩⟩, Hs⟩
  iapply (wp_dmaLocal (c := (c : Thread nD τ)) EC 𝒱₀ none (src := wV i) (dst := bufV (slot i)) (sm := .dma (wS (slot i))) (q := fullShare) (fs := I.w c) (fd := fd)
    (Sd := (bufV (slot i)).view.set) () Nw rfl Nw_pos (Finset.Subset.refl _)) $$ [Hv Hd Hs]
  · isplitl [Hs]; · iexact Hs
    isplitl [Hd]; · iexact Hd
    iexact Hv
  iintro HF
  rw [wp_ret]; imodintro
  iapply (hm fd); iexact HF

/-- A wait for a local copy. -/
theorem localWait_step {sp sp' : Space} {s s' : Shape} {e e' : EltTy} {k : DmaSem sig} {src : Memref sig .tc sp' s' e'} {dst : Memref sig .tc sp s e}
    {hsrc : src.view.WordExact} {hdst : dst.view.WordExact} {n : ℕ} {D : sProp 𝕄} (hn : dst.view.dmaCredit = n) (hk : role (.dma k) = none) (S : Finset Hop) :
    iprop(recs I κ ∗ Flight EC (c : Thread nD τ) (.dma k) () n D ∗ ow c S)
      ⊢ WP c (Prog.lift (.waitDma2 k src dst hsrc hdst)) fun _ => iprop(D ∗ semVal ((c : Thread nD τ), .dma k) 0 ∗ ow c S) := by
  unfold ow
  iintro ⟨#HR, HF, ⟨%W, HO⟩⟩
  iapply (wp_waitLocalO (c := (c : Thread nD τ)) EC 𝒱₀ none () hn) $$ [HF HO]
  · isplitl [HF]; · iexact HF
    isplitl [HO]; · iexact HO
    iapply (mayWait c (.dma k) S 0 (le_of_eq (lv_dma c k hk ())) fun p hp => by omega)
    iapply (recs_lev I κ); iexact HR
  iintro ⟨HD, Hv, HO⟩
  rw [wp_ret]; imodintro
  isplitl [HD]; · iexact HD
  isplitl [Hv]; · iexact Hv
  iexists _; iexact HO

/-- A staging slot before round `n` of the loop: slice `n` is on its way, or the slot is at rest. -/
def wSt (n : ℕ) : sProp 𝕄 := if h : n < 8 then wFlight I c ⟨n, h⟩ else wIdle c ⟨n % 2, Nat.mod_lt _ (by decide)⟩
theorem wSt_lt {n : ℕ} (h : n < 8) : wSt I c n = wFlight I c ⟨n, h⟩ := dif_pos h
theorem wSt_ge {n : ℕ} (h : ¬ n < 8) : wSt I c n = wIdle c ⟨n % 2, Nat.mod_lt _ (by decide)⟩ := dif_neg h

/-- One round of the loop over the slices, and what the restart at its end takes. -/
theorem wRestart_step (i : Fin 8) :
    iprop(wIdle c (slot i) ∗ next (next fun k => mpt c (wV k) fullShare (I.w c)) i)
      ⊢ WP c (if h : i.val + 2 < 8 then wStartP ⟨i.val + 2, h⟩ else pure ⟨⟩) fun _ => wSt I c (i.val + 2) := by
  by_cases h : i.val + 2 < 8
  · rw [wSt_lt I c h, dif_pos h]
    have e : next (next fun k => (mpt c (wV k) fullShare (I.w c) : sProp 𝕄)) i = mpt c (wV ⟨i.val + 2, h⟩) fullShare (I.w c) := by
      unfold next; rw [dif_pos (by omega)]; exact dif_pos h
    have es : slot i = slot (⟨i.val + 2, h⟩ : Fin 8) := Fin.ext (by show i.val % 2 = (i.val + 2) % 2; omega)
    rw [e, es]
    exact wStart_step I c ⟨i.val + 2, h⟩
  · rw [wSt_ge I c h, dif_neg h]
    have es : slot i = ⟨(i.val + 2) % 2, Nat.mod_lt _ (by decide)⟩ := Fin.ext (by show i.val % 2 = (i.val + 2) % 2; omega)
    rw [es]
    iintro ⟨H, -⟩
    iapply wp_done; iexact H

/-- What a round takes besides the slots: its slice of the narrowed weights, and the slice to restart with. -/
abbrev wIn (i : Fin 8) : sProp 𝕄 := iprop((∃ g, mpt (F := F) c (wbV i) fullShare g) ∗ next (next fun k => mpt c (wV k) fullShare (I.w c)) i)
abbrev wOut (i : Fin 8) : sProp 𝕄 := iprop(mpt c (wbV i) fullShare (wbC I c) ∗ mpt c (wV i) fullShare (I.w c))

theorem w_step (S : Finset Hop) (i : Fin 8) :
    iprop(recs I κ ∗ (wSt I c i.val ∗ wSt I c (i.val + 1) ∗ ow c S) ∗ wIn I c i)
      ⊢ WP c (wP i) fun _ => iprop((wSt I c (i.val + 1) ∗ wSt I c (i.val + 1 + 1) ∗ ow c S) ∗ wOut I c i) := by
  rw [wSt_lt I c i.isLt]
  unfold wP
  have hw := localWait_step I κ c (src := wV i) (dst := bufV (slot i)) (hsrc := View.wordExact_bits rfl) (hdst := (View.wordExact_bits rfl).reshape _ _)
    (D := wDone I c i) (buf_credit (slot i)) (role_w (slot i)) S
  have hs : (bufM.access (bufR (slot i))).set ⊆ (bufV (slot i)).view.set := (View.set_reshape ..).symm.subset
  iintro ⟨#HR, ⟨HF, Hnx, HO⟩, ⟨%g, Hwb⟩, Hsrc⟩
  iapply (bind_step hw) $$ [HF HO]
  · isplitr; · iexact HR
    isplitl [HF]; · iexact HF
    iexact HO
  iintro %u ⟨⟨Hb, Hw⟩, Hv, HO⟩
  iapply (bind_step (load_step hs)) $$ [Hb]
  · iexact Hb
  iintro %v ⟨%hv, Hb⟩
  subst hv
  iapply (bind_step (load_step (Finset.Subset.refl _))) $$ [Hwb]
  · iexact Hwb
  iintro %v ⟨-, Hwb⟩
  iapply (bind_step (store_step (Finset.Subset.refl _))) $$ [Hwb]
  · iexact Hwb
  iintro %u2 Hwb
  iapply (wp_wand_r frame _ Set.univ)
  isplitl [Hv Hb Hsrc]
  · iapply (wRestart_step I c i)
    isplitl [Hv Hb]
    · isplitl [Hv]; · iexact Hv
      iexists _; iexact Hb
    iexact Hsrc
  iintro %u3 Hst
  isplitl [Hnx Hst HO]
  · isplitl [Hnx]; · iexact Hnx
    isplitl [Hst]; · iexact Hst
    iexact HO
  isplitl [Hwb]; · iapply (Entails.of_eq (wb_landed I c i (slot i) g)); iexact Hwb
  iexact Hw

theorem forP_two (f : Fin 2 → Pg F PUnit) : forP 2 f = (f 0 >>= fun _ => f 1 >>= fun _ => pure ⟨⟩) := rfl
theorem mpt_any {sp : Space} {s : Shape} {e : EltTy} (c : Dev nD) (M : Memref sig .tc sp s e) (q : PosShare TreeShare) (f : Buf (Elt F) (M.view.loc (c : Thread nD τ))) :
    mpt c M q f ⊢ iprop(∃ g, mpt (F := F) c M q g) := by
  iintro H; iexists f; iexact H

/-- The first two slices start. -/
theorem w_first :
    iprop(wIdle c 0 ∗ wIdle c 1 ∗ mpt c (wV 0) fullShare (I.w c) ∗ mpt c (wV 1) fullShare (I.w c))
      ⊢ WP c (forP 2 fun i => wStartP (Fin.castLE (by decide) i)) fun _ => iprop(wSt I c 0 ∗ wSt I c 1) := by
  have h0 : iprop(wIdle c 0 ∗ mpt c (wV 0) fullShare (I.w c)) ⊢ WP c (wStartP (Fin.castLE (by decide) (0 : Fin 2))) fun _ => wSt I c 0 := by
    rw [wSt_lt I c (by decide)]; exact wStart_step I c 0
  have h1 : iprop(wIdle c 1 ∗ mpt c (wV 1) fullShare (I.w c)) ⊢ WP c (wStartP (Fin.castLE (by decide) (1 : Fin 2))) fun _ => wSt I c 1 := by
    rw [wSt_lt I c (by decide)]; exact wStart_step I c 1
  rw [forP_two]
  iintro ⟨Hi0, Hi1, Hw0, Hw1⟩
  iapply (bind_step h0) $$ [Hi0 Hw0]
  · isplitl [Hi0]; · iexact Hi0
    iexact Hw0
  iintro %u H0
  iapply (bind_step h1) $$ [Hi1 Hw1]
  · isplitl [Hi1]; · iexact Hi1
    iexact Hw1
  iintro %u2 H1
  iapply wp_done
  isplitl [H0]; · iexact H0
  iexact H1

/-- The loop over the slices narrows all the weights. -/
theorem w_loop (S : Finset Hop) :
    iprop(recs I κ ∗ (wSt I c 0 ∗ wSt I c 1 ∗ ow c S) ∗ (∃ g, mpt (F := F) c wbM fullShare g)
        ∗ bigSep Finset.univ (next (next fun k => mpt c (wV k) fullShare (I.w c))))
      ⊢ WP c (forP 8 wP) fun _ => iprop((wIdle c 0 ∗ wIdle c 1 ∗ ow c S) ∗ mpt c wbM fullShare (wbC I c)
        ∗ bigSep Finset.univ fun k => mpt c (wV k) fullShare (I.w c)) := by
  have h := wp_for (recs I κ) 8 wP (fun n => iprop(wSt I c n ∗ wSt I c (n + 1) ∗ ow c S)) (wIn I c) (wOut I c) (w_step I κ c S)
  have hin : iprop((∃ g, mpt (F := F) c wbM fullShare g) ∗ bigSep Finset.univ (next (next fun k => mpt c (wV k) fullShare (I.w c))))
      ⊢ (bigSep Finset.univ (wIn I c) : sProp 𝕄) := by
    unfold wIn
    rw [bigSep_sep']
    iintro ⟨⟨%g, H⟩, Hn⟩
    isplitl [H]
    · iapply (show (mpt c wbM fullShare g : sProp 𝕄) ⊢ bigSep Finset.univ fun i => iprop(∃ g, mpt (F := F) c (wbV i) fullShare g) from
        (Entails.of_eq (wb_cut c fullShare g)).trans (bigSep_mono fun i _ => mpt_any c (wbV i) fullShare g))
      iexact H
    iexact Hn
  have hout : (bigSep Finset.univ (wOut I c) : sProp 𝕄)
      ⊢ iprop(mpt c wbM fullShare (wbC I c) ∗ bigSep Finset.univ fun k => mpt c (wV k) fullShare (I.w c)) := by
    unfold wOut
    rw [bigSep_sep', wb_cut c fullShare (wbC I c)]
  have e8 : wSt I c 8 = wIdle c 0 := wSt_ge I c (by decide)
  have e9 : wSt I c (8 + 1) = wIdle c 1 := wSt_ge I c (by decide)
  rw [e8, e9] at h
  iintro ⟨#HR, HI, Hwb, Hn⟩
  iapply (wp_wand_r frame _ Set.univ)
  isplitl
  · iapply h
    isplitr; · iexact HR
    isplitl [HI]; · iexact HI
    iapply hin
    isplitl [Hwb]; · iexact Hwb
    iexact Hn
  iintro %u ⟨HI, HB⟩
  isplitl [HI]; · iexact HI
  iapply hout; iexact HB

/-! ## The blocks of the result -/

/-- The rows a block is made of, at the share kept for the loads. -/
def chunkRes (d : Fin 2) : Fin 8 → sProp 𝕄
  | ⟨0, _⟩ => mpt c (xHalf d) qL (I.x c)
  | ⟨h + 1, hh⟩ => mpt c (slotV d ⟨h, Nat.lt_of_succ_lt_succ hh⟩) qL (comC I c d)
theorem chunk_step (d : Fin 2) : ∀ h : Fin 8,
    chunkRes I c d h ⊢ WP c (chunkP d h) fun v => iprop(⌜v = rowsV I (org c d h.val) d⌝ ∗ chunkRes I c d h)
  | ⟨0, _⟩ => by
    have hs : (xM.access (xHalfR d)).set ⊆ (xHalf d).view.set := Finset.Subset.refl _
    unfold chunkRes chunkP
    iintro H
    iapply (bind_step (load_step hs)) $$ [H]
    · iexact H
    iintro %v ⟨%hv, H⟩
    subst hv
    iapply wp_done
    isplitr; · ipureintro; exact half_read I c d
    iexact H
  | ⟨h + 1, hh⟩ => by
    have hs : ((comM d).access (chunkR ⟨h, by omega⟩)).set ⊆ (slotV d ⟨h, by omega⟩).view.set := Finset.Subset.refl _
    unfold chunkRes chunkP
    iintro H
    iapply (bind_step (load_step hs)) $$ [H]
    · iexact H
    iintro %v ⟨%hv, H⟩
    subst hv
    iapply wp_done
    isplitr; · ipureintro; exact chunk_read I c ⟨h, by omega⟩ d
    iexact H

/-- What a block's copy brings: its rows of the result, and its stage back. -/
abbrev oDone (d : Fin 2) (h : Fin 8) : sProp 𝕄 := iprop(mpt c (outV c d h) fullShare (outC I c) ∗ ∃ f, mpt (F := F) c (stV d) fullShare f)
abbrev oIdle (d : Fin 2) : sProp 𝕄 := iprop(semVal ((c : Thread nD τ), .dma (oS d)) 0 ∗ ∃ f, mpt (F := F) c (stV d) fullShare f)
abbrev oFlight (d : Fin 2) (h : Fin 8) : sProp 𝕄 := Flight EC (c : Thread nD τ) (.dma (oS d)) () No (oDone I c d h)

/-- The end of a block: stored to its stage, and its copy started. -/
def gemmTail (s : F .f32) (d : Fin 2) (h : Fin 8) (x : FVec F S256x4096 .fp8e5m2) (w : Vec F S4096x1024 .bf16) : Pg F PUnit := do
  let _ : Vec F S1x256x1024 .bf16 ← Prog.lift (.load stM (stR d).toLoadRect (View.loadsAt_vmem h_S1x256x1024))
  Prog.lift (.store stM (stR d) (shapeCast S1x256x1024 (blockPay s x w) shapeCasts_S256x1024_S1x256x1024) Finset.univ
    (View.stores_vmem h_S1x256x1024 ((Memref.isWhole_whole _).storeExact_slice rfl _ (stPacked d)) (fun _ => rfl)) (.inl rfl))
  outStartP c d h
abbrev wLoad : Pg F (Vec F S4096x1024 .bf16) :=
  Prog.lift (.load wbM (Rect.unit (s := S4096x1024) ![0, 0] S4096x1024.size inb_S4096x1024_S4096x1024_0_0).toLoadRect (View.loadsAt_vmem h_S4096x1024))
theorem gemmP_zero (s : F .f32) (d : Fin 2) (h0) : gemmP c s d ⟨0, h0⟩ = (chunkP d ⟨0, h0⟩ >>= fun x => wLoad >>= fun w => gemmTail c s d ⟨0, h0⟩ x w) := rfl
theorem gemmP_succ (s : F .f32) (d : Fin 2) (h : ℕ) (hh : h + 1 < 8) : gemmP c s d ⟨h + 1, hh⟩
    = (chunkP d ⟨h + 1, hh⟩ >>= fun x => wLoad >>= fun w => outWaitP c d ⟨h, by omega⟩ >>= fun _ => gemmTail c s d ⟨h + 1, hh⟩ x w) := rfl

theorem wLoad_step : (mpt c wbM fullShare (wbC I c) : sProp 𝕄) ⊢ WP c wLoad fun v => iprop(⌜v = wbC I c⌝ ∗ mpt c wbM fullShare (wbC I c)) := by
  have hs : (wbM.access (Rect.unit (s := S4096x1024) ![0, 0] S4096x1024.size inb_S4096x1024_S4096x1024_0_0)).set ⊆ wbM.view.set := by
    rw [View.set_whole]; exact Finset.subset_univ _
  have hr : (wbM.access (Rect.unit (s := S4096x1024) ![0, 0] S4096x1024.size inb_S4096x1024_S4096x1024_0_0)).read (Elt F) (wbC I c) = wbC I c := by
    funext x
    show wbC I c ((Rect.unit (s := S4096x1024) ![0, 0] S4096x1024.size inb_S4096x1024_S4096x1024_0_0).emb x) = wbC I c x
    refine congrArg (wbC I c) ?_
    funext a
    refine Fin.ext ?_
    match a with
    | ⟨0, _⟩ => show 0 + 1 * (x 0).val = (x 0).val; omega
    | ⟨1, _⟩ => show 0 + 1 * (x 1).val = (x 1).val; omega
  have h := load_step (c := c) (q := fullShare) (hl := View.loadsAt_vmem h_S4096x1024) (f := wbC I c) hs
  rw [hr] at h
  exact h

theorem tail_step (d : Fin 2) (h : Fin 8) :
    iprop(oIdle c d ∗ ∃ f, mpt (F := F) c (outV c d h) fullShare f)
      ⊢ WP c (gemmTail c (scal I c) d h (rowsV I (org c d h.val) d) (wbC I c)) fun _ => oFlight I c d h := by
  unfold gemmTail
  have hs : (stM.access (stR d)).set ⊆ (stV d).view.set := (View.set_reshape ..).symm.subset
  iintro ⟨⟨Hv, ⟨%f, Hst⟩⟩, ⟨%fd, Ho⟩⟩
  iapply (bind_step (load_step hs)) $$ [Hst]
  · iexact Hst
  iintro %v ⟨-, Hst⟩
  iapply (bind_step (store_step hs)) $$ [Hst]
  · iexact Hst
  iintro %u Hst
  unfold outStartP
  let fs : Buf (Elt F) ((stV d).view.loc (c : Thread nD τ)) :=
    (stM.access (stR d)).write (Elt F) f (shapeCast S1x256x1024 (blockC I c (org c d h.val) d) shapeCasts_S256x1024_S1x256x1024) Finset.univ
  have hm := Flight_mono (c := (c : Thread nD τ)) EC (sm := .dma (oS d)) (ι := ()) (N := No)
    (D := iprop(mpt c (outV c d h) fullShare ((outV c d h).view.write (Elt F) fd ((stV d).view.read (Elt F) fs) Finset.univ) ∗ mpt c (stV d) fullShare fs))
    (D' := oDone I c d h) (by
      iintro ⟨H1, H2⟩
      isplitl [H1]; · iapply (Entails.of_eq (out_landed I c d h f fd)); iexact H1
      iexists _; iexact H2)
  iapply (wp_dmaLocal (c := (c : Thread nD τ)) EC 𝒱₀ none (src := stV d) (dst := outV c d h) (sm := .dma (oS d)) (q := fullShare) (fs := fs) (fd := fd)
    (Sd := (outV c d h).view.set) () No rfl No_pos (Finset.Subset.refl _)) $$ [Hv Ho Hst]
  · isplitl [Hst]; · iexact Hst
    isplitl [Ho]; · iexact Ho
    iexact Hv
  iintro HF
  rw [wp_ret]; imodintro
  iapply hm; iexact HF

/-- The stage of a direction before block `h`: at rest at first, then with the block before on its way. -/
def oSt (d : Fin 2) : Fin 8 → sProp 𝕄
  | ⟨0, _⟩ => oIdle c d
  | ⟨h + 1, hh⟩ => oFlight I c d ⟨h, by omega⟩
/-- What block `h` waited for. -/
def oPrev (d : Fin 2) : Fin 8 → sProp 𝕄
  | ⟨0, _⟩ => iprop(emp)
  | ⟨h + 1, hh⟩ => mpt c (outV c d ⟨h, by omega⟩) fullShare (outC I c)

/-- A wait for a block. -/
theorem outWait_step (S : Finset Hop) (d : Fin 2) (h : Fin 8) :
    iprop(recs I κ ∗ oFlight I c d h ∗ ow c S)
      ⊢ WP c (outWaitP c d h) fun _ => iprop(oDone I c d h ∗ semVal ((c : Thread nD τ), .dma (oS d)) 0 ∗ ow c S) :=
  localWait_step I κ c (out_credit c d h) (role_o d) S

/-- One block: its rows loaded, the block before waited for, the block computed, stored and on its way. -/
theorem gemm_step (S : Finset Hop) (d : Fin 2) : ∀ h : Fin 8,
    iprop(recs I κ ∗ (mpt c wbM fullShare (wbC I c) ∗ ow c S) ∗ chunkRes I c d h ∗ oSt I c d h ∗ ∃ f, mpt (F := F) c (outV c d h) fullShare f)
      ⊢ WP c (gemmP c (scal I c) d h) fun _ => iprop((mpt c wbM fullShare (wbC I c) ∗ ow c S) ∗ chunkRes I c d h ∗ oFlight I c d h ∗ oPrev I c d h)
  | ⟨0, h0⟩ => by
    rw [gemmP_zero]; unfold oSt oPrev
    iintro ⟨#HR, ⟨Hw, HO⟩, Hc, Hst, Ho⟩
    iapply (bind_step (chunk_step I c d ⟨0, h0⟩)) $$ [Hc]
    · iexact Hc
    iintro %x ⟨%hx, Hc⟩
    iapply (bind_step (wLoad_step I c)) $$ [Hw]
    · iexact Hw
    iintro %w ⟨%hw, Hw⟩
    subst hx hw
    iapply (wp_wand_r frame _ Set.univ)
    isplitl [Hst Ho]
    · iapply (tail_step I c d ⟨0, h0⟩)
      isplitl [Hst]; · iexact Hst
      iexact Ho
    iintro %u HF
    isplitl [Hw HO]
    · isplitl [Hw]; · iexact Hw
      iexact HO
    isplitl [Hc]; · iexact Hc
    isplitl [HF]; · iexact HF
    iempintro
  | ⟨h + 1, hh⟩ => by
    rw [gemmP_succ]; unfold oSt oPrev
    iintro ⟨#HR, ⟨Hw, HO⟩, Hc, Hst, Ho⟩
    iapply (bind_step (chunk_step I c d ⟨h + 1, hh⟩)) $$ [Hc]
    · iexact Hc
    iintro %x ⟨%hx, Hc⟩
    iapply (bind_step (wLoad_step I c)) $$ [Hw]
    · iexact Hw
    iintro %w ⟨%hw, Hw⟩
    subst hx hw
    iapply (bind_step (outWait_step I κ c S d ⟨h, Nat.lt_of_succ_lt hh⟩)) $$ [Hst HO]
    · isplitr; · iexact HR
      isplitl [Hst]; · iexact Hst
      iexact HO
    iintro %u ⟨⟨Hp, Hst⟩, Hv, HO⟩
    iapply (wp_wand_r frame _ Set.univ)
    isplitl [Hv Hst Ho]
    · iapply (tail_step I c d ⟨h + 1, hh⟩)
      isplitl [Hv Hst]
      · isplitl [Hv]; · iexact Hv
        iexact Hst
      iexact Ho
    iintro %u HF
    isplitl [Hw HO]
    · isplitl [Hw]; · iexact Hw
      iexact HO
    isplitl [Hc]; · iexact Hc
    isplitl [HF]; · iexact HF
    iexact Hp

end Cert.KernelIdeal.Proof

end
-- ==== Proof.Body.lean ====
/- The body of the kernel, run once on a symbolic device. -/
module

public import proofs.«01_k».proof.Proof.Local

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds Idealize.ShloMosaic.Transfers
open Cert.KernelIdeal.Gen

variable {F : FTy → Type} [FloatOps F]

local notation "𝕄" => MM F

variable (I : Inp F) (κ : GSem nD τ sig → ℕ) (c : Dev nD)

/-! ## The barrier and the scalars -/

/-- What a device tells the neighbour it receives from along a direction. -/
abbrev barGive (d : Fin 2) : sProp 𝕄 := bigSep Finset.univ fun p : Fin 7 × Fin 2 =>
  iprop((∃ f, mpt (F := F) c (piece d p.1 p.2) fullShare f) ∗ reached ER (recvCell c d p.1 p.2) 0)

theorem barGive_pay (d : Fin 2) : (barGive c d : sProp 𝕄) = barPay (frm c d) d := by
  unfold barPay barGive; rw [tgt_frm]

theorem signal_step (d : Fin 2) (O : CellTallies nD τ sig Unit) :
    iprop(recs I κ ∗ (∃ W, owes (c : Thread nD τ) (O + tallyAt (barCell (frm c d)) () 1) W) ∗ dutyTok ER (barCell (frm c d)) 0 d ∗ barGive c d)
      ⊢ WP c (semSignalWord (frm c d) barS 1#32) fun _ => iprop(∃ W, owes (c : Thread nD τ) O W) := by
  rw [barGive_pay, ← payload_bar I (frm c d) d]
  iintro ⟨#HR, ⟨%W, HO⟩, Ht, Hp⟩
  iapply (Rounds.wp_signal 𝒱₀ ER (rd I) (c : Thread nD τ) none (dst := (frm c d : Thread nD τ)) (sem := barS) (r := 0) (d := d) (k' := 1) (κ := κ (barCell (frm c d)))
      (by rw [duties_bar]; exact Finset.mem_univ _) (amount_bar I (frm c d) d) () O rfl) $$ [HO Ht Hp]
  · isplitr; · iapply (recs_inv I κ (Finset.mem_union_left _ (bar_mem (frm c d)))); iexact HR
    isplitl [HO]; · iexact HO
    isplitl [Ht]; · iexact Ht
    isplitl [Hp]; · iexact Hp
    iapply (recs_reached I κ (frm c d)); iexact HR
  iintro HO
  rw [wp_ret]; imodintro
  iexists W; iexact HO

theorem wait_step :
    iprop(recs I κ ∗ cred (tallyAt (barCell c) () 2) ∗ atPos ER (barCell c) 0 ∅ 0 ∗ ow c (hops 0))
      ⊢ WP c (semWaitWord barS 2#32) fun _ => iprop(atPos ER (barCell c) 1 ∅ 0 ∗ (bigSep Finset.univ fun d => barPay c d) ∗ ow c (hops 0)) := by
  unfold ow
  iintro ⟨#HR, Hc, Hat, ⟨%W, HO⟩⟩
  iapply (Rounds.wp_wait_rest_token 𝒱₀ ER (rd I) (c : Thread nD τ) none (κ := κ (barCell c))
      (wpE_semWait_eq 𝒱₀ (c : Thread nD τ) none Set.univ) (Set.mem_univ _) () (O := dues c (hops 0)) (W := W) (R := 0) (m := 0) (T := ∅) (k' := 2)
      ((Nat.zero_add _).trans (expect_bar I c).symm)) $$ [Hc HO Hat]
  · isplitr; · iapply (recs_inv I κ (Finset.mem_union_left _ (bar_mem c))); iexact HR
    isplitl [Hc]; · iexact Hc
    isplitl [HO]; · iexact HO
    isplitr
    · iapply (mayWait c (.reg barS) (hops 0) 1 (le_of_eq (lv_bar c ())) fun p hp => by omega)
      iapply (recs_lev I κ); iexact HR
    iexact Hat
  iintro ⟨HO, Hat, -, Hp⟩
  rw [wp_ret]; imodintro
  isplitl [Hat]; · iexact Hat
  isplitl [Hp]; · iapply (Entails.of_eq (rest_bar I c)); iexact Hp
  iexists _; iexact HO

/-- A scalar read from its word. -/
theorem smem_step (M : Memref sig .tc .smem S1 .f32) (v : Vec F S1 .f32) (f : Buf (Elt F) (M.view.loc (c : Thread nD τ)))
    (hv : ∀ x, M.view.read (Elt F) f x = v x) :
    (mpt c M fullShare f : sProp 𝕄)
      ⊢ WP c (smemLoad M (Rect.unit (s := S1) ![0] S1.size inb_S1_S1_0) numel1_S1 rfl) fun a => iprop(⌜a = v (ix1 0)⌝ ∗ mpt c M fullShare f) := by
  have hs : (M.access (Rect.unit (s := S1) ![0] S1.size inb_S1_S1_0)).set ⊆ M.view.set := by
    rw [View.set_slice]; exact Finset.map_subset_map.mpr (Finset.subset_univ _)
  have he (x : S1.Idx) : (M.access (Rect.unit (s := S1) ![0] S1.size inb_S1_S1_0)).read (Elt F) f x = v (ix1 0) := by
    refine (hv ((Rect.unit (s := S1) ![0] S1.size inb_S1_S1_0).emb x)).trans (congrArg v ?_)
    exact Shape.idx1_ext (by have h1 : ∀ y : S1.Idx, (y 0).val = 0 := fun y => by have : (y 0).val < 1 := (y 0).isLt; omega
                             rw [h1, h1])
  unfold smemLoad
  iintro H
  iapply (wp_smemLoadElt (c := (c : Thread nD τ)) 𝒱₀ none Set.univ hs) $$ [H]
  · iexact H
  iintro H
  rw [he, wp_ret]; imodintro
  isplitr; · ipureintro; rfl
  iexact H

/-! ## Sums over the transfers -/

/-- A sum over every transfer, the hop innermost. -/
def all3 (X : Fin 2 → Fin 7 → Fin 2 → sProp 𝕄) : sProp 𝕄 :=
  bigSep Finset.univ fun d => bigSep Finset.univ fun s => bigSep Finset.univ fun h => X d h s
theorem all3_hop (X : Fin 2 → Fin 7 → Fin 2 → sProp 𝕄) :
    all3 X = bigSep Finset.univ fun h => bigSep Finset.univ fun s => bigSep Finset.univ fun d => X d h s := by
  unfold all3
  rw [bigSep_univ_comm, bigSep_congr fun s _ => bigSep_univ_comm fun d h => X d h s, bigSep_univ_comm]
theorem all3_dhs (X : Fin 2 → Fin 7 → Fin 2 → sProp 𝕄) :
    all3 X = bigSep Finset.univ fun d => bigSep Finset.univ fun h => bigSep Finset.univ fun s => X d h s :=
  bigSep_congr fun d _ => bigSep_univ_comm fun s h => X d h s
theorem all3_prod (X : Fin 2 → Fin 7 → Fin 2 → sProp 𝕄) :
    all3 X = bigSep Finset.univ fun d => bigSep Finset.univ fun p : Fin 7 × Fin 2 => X d p.1 p.2 :=
  (all3_dhs X).trans (bigSep_congr fun d _ => (bigSep_univ_prod fun p : Fin 7 × Fin 2 => X d p.1 p.2).symm)
theorem all3_sep (X Y : Fin 2 → Fin 7 → Fin 2 → sProp 𝕄) : all3 (fun d h s => iprop(X d h s ∗ Y d h s)) = iprop(all3 X ∗ all3 Y) := by
  unfold all3
  rw [← bigSep_sep']
  refine bigSep_congr fun d _ => ?_
  rw [← bigSep_sep']
  exact bigSep_congr fun s _ => bigSep_sep' _ _ _
theorem all3_mono {X Y : Fin 2 → Fin 7 → Fin 2 → sProp 𝕄} (h : ∀ d h s, X d h s ⊢ Y d h s) : all3 X ⊢ all3 Y :=
  bigSep_mono fun d _ => bigSep_mono fun s _ => bigSep_mono fun n _ => h d n s
/-- The first hop apart, and the hop after at every hop. -/
theorem all3_next (X : Fin 2 → Fin 7 → Fin 2 → sProp 𝕄) :
    all3 X = iprop((bigSep Finset.univ fun d => bigSep Finset.univ fun s => X d 0 s) ∗ all3 fun d h s => next (fun h => X d h s) h) := by
  unfold all3
  rw [← bigSep_sep']
  refine bigSep_congr fun d _ => ?_
  rw [← bigSep_sep']
  exact bigSep_congr fun s _ => big_next fun h => X d h s

/-- The first transfer and what each later hop kept are all the transfers, and the last piece's share. -/
theorem kept_all (d s : Fin 2) :
    iprop(flyRes c d 0 s ∗ bigSep Finset.univ fun h => kept I c d s h)
      ⊢ iprop((bigSep Finset.univ fun h => flyRes c d h s) ∗ mpt c (piece d 6 s) qR (comC I c d)) := by
  rw [big_last fun h => kept I c d s h, big_succ fun h => flyRes c d h s]
  have h1 : (fun i : Fin 6 => kept I c d s i.castSucc) = fun i => flyRes c d i.succ s := by
    funext i; unfold kept; rw [dif_pos (show i.castSucc.val + 1 < 7 from by have := i.isLt; show i.val + 1 < 7; omega)]; rfl
  have h2 : kept I c d s (Fin.last 6) = mpt c (piece d 6 s) qR (comC I c d) := dif_neg (by decide)
  rw [h1, h2]
  iintro ⟨H0, H1, H2⟩
  isplitl [H0 H1]
  · isplitl [H0]; · iexact H0
    iexact H1
  iexact H2
theorem kept_sum :
    iprop((bigSep Finset.univ fun d => bigSep Finset.univ fun s => flyRes c d 0 s) ∗ all3 fun d h s => kept I c d s h)
      ⊢ iprop((all3 fun d h s => flyRes c d h s) ∗ bigSep Finset.univ fun d => bigSep Finset.univ fun s => mpt c (piece d 6 s) qR (comC I c d)) := by
  unfold all3
  rw [← bigSep_sep', ← bigSep_sep']
  refine bigSep_mono fun d _ => ?_
  rw [← bigSep_sep', ← bigSep_sep']
  exact bigSep_mono fun s _ => kept_all I c d s

/-- The shares that come back at the departures, and the last piece's, are the block of x and all the pieces. -/
theorem sent_all (d s : Fin 2) :
    iprop((bigSep Finset.univ fun h => sendPay I c d h s) ∗ mpt c (piece d 6 s) qR (comC I c d))
      ⊢ iprop(mpt c (xPiece d s) qR (I.x c) ∗ bigSep Finset.univ fun h => mpt c (piece d h s) qR (comC I c d)) := by
  rw [big_succ fun h => sendPay I c d h s, big_last fun h => mpt c (piece d h s) qR (comC I c d)]
  have h0 : sendPay I c d 0 s = mpt c (xPiece d s) qR (I.x c) := rfl
  have h1 : (fun i : Fin 6 => sendPay I c d i.succ s) = fun i => mpt c (piece d i.castSucc s) qR (comC I c d) := rfl
  rw [h0, h1]
  iintro ⟨⟨H0, H1⟩, H2⟩
  isplitl [H0]; · iexact H0
  isplitl [H1]; · iexact H1
  iexact H2
theorem sent_sum :
    iprop((all3 fun d h s => sendPay I c d h s) ∗ bigSep Finset.univ fun d => bigSep Finset.univ fun s => mpt c (piece d 6 s) qR (comC I c d))
      ⊢ iprop((bigSep Finset.univ fun d => bigSep Finset.univ fun s => mpt c (xPiece d s) qR (I.x c)) ∗ all3 fun d h s => mpt c (piece d h s) qR (comC I c d)) := by
  unfold all3
  rw [← bigSep_sep', ← bigSep_sep']
  refine bigSep_mono fun d _ => ?_
  rw [← bigSep_sep', ← bigSep_sep']
  exact bigSep_mono fun s _ => sent_all I c d s

/-! ## Sharing the block of x, the slots, the result -/

theorem halve {sp : Space} {s : Shape} {e : EltTy} (M : Memref sig .tc sp s e) (f : Buf (Elt F) (M.view.loc (c : Thread nD τ))) :
    mpt c M fullShare f ⊢ iprop(mpt (F := F) c M qL f ∗ mpt c M qR f) := (pointsTo_share (PosShare.mem_left_op_right fullShare)).1
theorem unhalve {sp : Space} {s : Shape} {e : EltTy} (M : Memref sig .tc sp s e) (f : Buf (Elt F) (M.view.loc (c : Thread nD τ))) :
    iprop(mpt (F := F) c M qL f ∗ mpt c M qR f) ⊢ mpt c M fullShare f := (pointsTo_share (PosShare.mem_left_op_right fullShare)).2

theorem x_parts (q : PosShare TreeShare) : (mpt c xM q (I.x c) : sProp 𝕄) = bigSep Finset.univ fun d => bigSep Finset.univ fun s => mpt c (xPiece d s) q (I.x c) :=
  (x_cut c q (I.x c)).trans (bigSep_univ_prod fun p : Fin 2 × Fin 2 => mpt c (xPiece p.1 p.2) q (I.x c))
theorem x_loads : (mpt c xM qL (I.x c) : sProp 𝕄) = bigSep Finset.univ fun d => chunkRes I c d 0 := x_halves c qL (I.x c)
/-- The slots' left halves are the pieces'. -/
theorem slots_left : (all3 fun d h s => mpt c (piece d h s) qL (comC I c d)) = bigSep Finset.univ fun h : Fin 7 => bigSep Finset.univ fun d => chunkRes I c d h.succ := by
  rw [all3_dhs, bigSep_univ_comm]
  exact bigSep_congr fun h _ => bigSep_congr fun d _ => (slot_cut c qL h d (comC I c d)).symm
theorem com_parts (f : (d : Fin 2) → Buf (Elt F) ((comM d).view.loc (c : Thread nD τ))) :
    (bigSep Finset.univ fun d => mpt c (comM d) fullShare (f d) : sProp 𝕄) = all3 fun d h s => mpt c (piece d h s) fullShare (f d) := by
  rw [all3_prod]; exact bigSep_congr fun d _ => com_cut c fullShare d (f d)
theorem com_whole :
    iprop((all3 fun d h s => mpt c (piece d h s) qL (comC I c d)) ∗ all3 fun d h s => mpt c (piece d h s) qR (comC I c d))
      ⊢ bigSep Finset.univ fun d => iprop(∃ f, mpt (F := F) c (comM d) fullShare f) := by
  rw [← all3_sep]
  refine (all3_mono fun d h s => unhalve c (piece d h s) (comC I c d)).trans ?_
  rw [← com_parts c fun d => comC I c d]
  exact bigSep_mono fun d _ => mpt_any c (comM d) fullShare _
theorem out_parts (f : Buf (Elt F) (oM.view.loc (c : Thread nD τ))) :
    (mpt c oM fullShare f : sProp 𝕄) = iprop((bigSep Finset.univ fun d => mpt c (outV c d 0) fullShare f)
      ∗ bigSep Finset.univ fun h : Fin 7 => bigSep Finset.univ fun d => mpt c (outV c d h.succ) fullShare f) := by
  rw [out_cut, bigSep_univ_prod, bigSep_univ_comm, big_succ]
theorem out_parts_last (f : Buf (Elt F) (oM.view.loc (c : Thread nD τ))) :
    (mpt c oM fullShare f : sProp 𝕄) = iprop((bigSep Finset.univ fun h : Fin 7 => bigSep Finset.univ fun d => mpt c (outV c d h.castSucc) fullShare f)
      ∗ bigSep Finset.univ fun d => mpt c (outV c d 7) fullShare f) := by
  rw [out_cut, bigSep_univ_prod, bigSep_univ_comm, big_last]; rfl

/-! ## A hop -/

/-- What both blocks of a hop need beside what stays. -/
abbrev gemmIn (h : Fin 8) (d : Fin 2) : sProp 𝕄 := iprop(chunkRes I c d h ∗ oSt I c d h ∗ ∃ f, mpt (F := F) c (outV c d h) fullShare f)
abbrev gemmOut (h : Fin 8) (d : Fin 2) : sProp 𝕄 := iprop(chunkRes I c d h ∗ oFlight I c d h ∗ oPrev I c d h)
abbrev stay (S : Finset Hop) : sProp 𝕄 := iprop(mpt c wbM fullShare (wbC I c) ∗ ow c S)

theorem gemm_both (S : Finset Hop) (h : Fin 8) :
    iprop(recs I κ ∗ stay I c S ∗ bigSep Finset.univ (gemmIn I c h))
      ⊢ WP c (forP 2 fun d => gemmP c (scal I c) d h) fun _ => iprop(stay I c S ∗ bigSep Finset.univ (gemmOut I c h)) :=
  wp_for (recs I κ) 2 _ (fun _ => stay I c S) _ _ fun d => gemm_step I κ c S d h

/-- Before hop `n`: the weights, what is owed, and both blocks of the hop before on their way. -/
def hopInv (n : ℕ) : sProp 𝕄 :=
  iprop(stay I c (hops (n + 1)) ∗ bigSep Finset.univ fun d => if hn : n < 8 then oFlight I c d ⟨n, hn⟩ else iprop(emp))
theorem hopInv_lt {n : ℕ} (hn : n < 8) : hopInv I c n = iprop(stay I c (hops (n + 1)) ∗ bigSep Finset.univ fun d => oFlight I c d ⟨n, hn⟩) := by
  unfold hopInv; simp only [dif_pos hn]
abbrev hopIn (h : Fin 7) : sProp 𝕄 :=
  iprop((bigSep Finset.univ fun s => bigSep Finset.univ fun d => passIn c h s d) ∗ bigSep Finset.univ fun d => iprop(∃ f, mpt (F := F) c (outV c d h.succ) fullShare f))
abbrev hopOut (h : Fin 7) : sProp 𝕄 :=
  iprop((bigSep Finset.univ fun s => bigSep Finset.univ fun d => iprop(atPos ER (recvCell c d h s) 1 ∅ 0 ∗ kept I c d s h))
    ∗ (bigSep Finset.univ fun d => chunkRes I c d h.succ) ∗ bigSep Finset.univ fun d => mpt c (outV c d h.castSucc) fullShare (outC I c))

theorem passOut_slots (h : Fin 7) :
    (bigSep Finset.univ fun s => bigSep Finset.univ fun d => passOut I c h s d)
      ⊢ iprop((bigSep Finset.univ fun s => bigSep Finset.univ fun d => iprop(atPos ER (recvCell c d h s) 1 ∅ 0 ∗ kept I c d s h))
        ∗ bigSep Finset.univ fun d => chunkRes I c d h.succ) := by
  have e : (bigSep Finset.univ fun d => chunkRes I c d h.succ) = bigSep Finset.univ fun s => bigSep Finset.univ fun d => mpt c (piece d h s) qL (comC I c d) := by
    rw [bigSep_univ_comm]
    exact bigSep_congr fun d _ => slot_cut c qL h d (comC I c d)
  rw [e, ← bigSep_sep']
  refine bigSep_mono fun s _ => ?_
  rw [← bigSep_sep']
  refine bigSep_mono fun d _ => ?_
  have h3 (A B C : sProp 𝕄) : iprop(A ∗ B ∗ C) ⊢ iprop((A ∗ C) ∗ B) := by
    iintro ⟨HA, HB, HC⟩
    isplitl [HA HC]
    · isplitl [HA]; · iexact HA
      iexact HC
    iexact HB
  exact h3 _ _ _

/-- A hop: its pieces arrive and are passed on, both blocks of the hop before land, and both its own are on their way. -/
theorem hop_step (h : Fin 7) :
    iprop(recs I κ ∗ hopInv I c h.val ∗ hopIn c h) ⊢ WP c (hopP c (scal I c) h) fun _ => iprop(hopInv I c (h.val + 1) ∗ hopOut I c h) := by
  have hlt := h.isLt
  rw [hopInv_lt I c (show h.val < 8 by omega), hopInv_lt I c (show h.val + 1 < 8 by omega)]
  unfold hopP
  have hin : iprop((bigSep Finset.univ fun d => chunkRes I c d h.succ) ∗ (bigSep Finset.univ fun d => oFlight I c d ⟨h.val, by omega⟩)
      ∗ bigSep Finset.univ fun d => iprop(∃ f, mpt (F := F) c (outV c d h.succ) fullShare f)) ⊢ bigSep Finset.univ (gemmIn I c h.succ) := by
    unfold gemmIn
    rw [bigSep_sep', bigSep_sep']; exact BI.Entails.refl _
  have hout : bigSep Finset.univ (gemmOut I c h.succ) ⊢ iprop((bigSep Finset.univ fun d => chunkRes I c d h.succ) ∗ (bigSep Finset.univ fun d => oFlight I c d ⟨h.val + 1, by omega⟩)
      ∗ bigSep Finset.univ fun d => mpt c (outV c d h.castSucc) fullShare (outC I c)) := by
    unfold gemmOut
    rw [bigSep_sep', bigSep_sep']; exact BI.Entails.refl _
  iintro ⟨#HR, ⟨⟨Hw, HO⟩, Hf⟩, Hp, Ho⟩
  iapply (bind_step (pass_hop I κ c h)) $$ [HO Hp]
  · isplitr; · iexact HR
    isplitl [HO]; · iexact HO
    iexact Hp
  iintro %u ⟨HO, Hp⟩
  ihave Hp2 := (passOut_slots I c h) $$ Hp
  icases Hp2 with ⟨Hk, Hs⟩
  iapply (wp_wand_r frame _ Set.univ)
  isplitl [Hw HO Hs Hf Ho]
  · iapply (gemm_both I κ c (hops (h.val + 2)) h.succ)
    isplitr; · iexact HR
    isplitl [Hw HO]
    · isplitl [Hw]; · iexact Hw
      iexact HO
    iapply hin
    isplitl [Hs]; · iexact Hs
    isplitl [Hf]; · iexact Hf
    iexact Ho
  iintro %u2 ⟨Hst, Hg⟩
  ihave Hg2 := hout $$ Hg
  icases Hg2 with ⟨Hs, Hf, Ho⟩
  isplitl [Hst Hf]
  · isplitl [Hst]; · iexact Hst
    iexact Hf
  isplitl [Hk]; · iexact Hk
  isplitl [Hs]; · iexact Hs
  iexact Ho

/-! ## The whole body -/

/-- What a transfer starts with besides the landing place its receiver hands over. -/
abbrev sendGift (d : Fin 2) (h : Fin 7) (s : Fin 2) : sProp 𝕄 :=
  iprop(dutyTok ER (sendCell c d h s) 0 0 ∗ dutyTok ER (recvCell (tgt c d) d h s) 0 0 ∗ atPos ER (sendCell c d h s) 0 ∅ 0 ∗ reached ER (sendCell c d h s) 0)
abbrev payPiece (d : Fin 2) (h : Fin 7) (s : Fin 2) : sProp 𝕄 :=
  iprop((∃ f, mpt (F := F) (tgt c d) (piece d h s) fullShare f) ∗ reached ER (recvCell (tgt c d) d h s) 0)
abbrev barGift : sProp 𝕄 :=
  iprop(cred (tallyAt (barCell c) () 2) ∗ atPos ER (barCell c) 0 ∅ 0 ∗ dutyTok ER (barCell (frm c 0)) 0 0 ∗ dutyTok ER (barCell (frm c 1)) 0 1)
/-- The device's own inputs: its block of x, the scales, its block of the weights. -/
abbrev inputs : sProp 𝕄 :=
  iprop(mpt c xM fullShare (I.x c) ∗ mpt c sxM fullShare (I.sx c) ∗ mpt c swM fullShare (I.sw c) ∗ mpt c wM fullShare (I.w c))

/-- What the body starts from. -/
def bodyIn : sProp 𝕄 :=
  iprop(barGift c ∗ (all3 (sendGift c) ∗ all3 (recvRes c) ∗ all3 fun d h s => reached ER (recvCell c d h s) 0)
    ∗ (bigSep Finset.univ fun d => iprop(∃ f, mpt (F := F) c (comM d) fullShare f)) ∗ inputs I c
    ∗ ((∃ f, mpt (F := F) c oM fullShare f) ∗ ∃ f, mpt (F := F) c wbM fullShare f)
    ∗ (bigSep Finset.univ (wIdle c) ∗ bigSep Finset.univ (oIdle c)) ∗ ∃ W, owes (c : Thread nD τ) (O₀ c) W)
/-- What it ends with: the result in place. -/
def bodyOut : sProp 𝕄 :=
  iprop(atPos ER (barCell c) 1 ∅ 0 ∗ (all3 (fun d h s => atPos ER (sendCell c d h s) 1 ∅ 0) ∗ all3 fun d h s => atPos ER (recvCell c d h s) 1 ∅ 0)
    ∗ (bigSep Finset.univ fun d => iprop(∃ f, mpt (F := F) c (comM d) fullShare f)) ∗ inputs I c
    ∗ (mpt c oM fullShare (outC I c) ∗ ∃ f, mpt (F := F) c wbM fullShare f)
    ∗ (bigSep Finset.univ (wIdle c) ∗ bigSep Finset.univ (oIdle c)) ∗ ∃ W, owes (c : Thread nD τ) 0 W)

/-- The receive buffers, cut up for the neighbours. -/
theorem give_all :
    iprop((bigSep Finset.univ fun d => iprop(∃ f, mpt (F := F) c (comM d) fullShare f)) ∗ all3 fun d h s => reached ER (recvCell c d h s) 0)
      ⊢ iprop(barGive c 0 ∗ barGive c 1) := by
  have h (d : Fin 2) : iprop((∃ f, mpt (F := F) c (comM d) fullShare f) ∗ bigSep Finset.univ fun p : Fin 7 × Fin 2 => reached ER (recvCell c d p.1 p.2) 0) ⊢ barGive c d := by
    unfold barGive
    rw [bigSep_sep']
    iintro ⟨⟨%f, H⟩, Hr⟩
    isplitl [H]
    · iapply (show (mpt c (comM d) fullShare f : sProp 𝕄) ⊢ bigSep Finset.univ fun p : Fin 7 × Fin 2 => iprop(∃ g, mpt (F := F) c (piece d p.1 p.2) fullShare g) from
        (Entails.of_eq (com_cut c fullShare d f)).trans (bigSep_mono fun p _ => mpt_any c (piece d p.1 p.2) fullShare f))
      iexact H
    iexact Hr
  have h2 : (bigSep Finset.univ fun d => (barGive c d : sProp 𝕄)) = iprop(barGive c 0 ∗ barGive c 1) := bigSep_fin_two _
  rw [all3_prod, ← bigSep_sep', ← h2]
  exact bigSep_mono fun d _ => h d

/-- The landing places the neighbours hand over complete what the transfers start with. -/
theorem take_all :
    iprop(all3 (sendGift c) ∗ bigSep Finset.univ fun d => barPay c d) ⊢ all3 (sendRes (F := F) c) := by
  have e : (bigSep Finset.univ fun d => (barPay c d : sProp 𝕄)) = all3 (payPiece c) := (all3_prod (payPiece c)).symm
  rw [e, ← all3_sep]
  refine all3_mono fun d h s => ?_
  unfold sendRes
  have h5 (A B C D E : sProp 𝕄) : iprop((A ∗ B ∗ C ∗ D) ∗ E) ⊢ iprop(A ∗ B ∗ C ∗ D ∗ E) := by
    iintro ⟨⟨HA, HB, HC, HD⟩, HE⟩
    isplitl [HA]; · iexact HA
    isplitl [HB]; · iexact HB
    isplitl [HC]; · iexact HC
    isplitl [HD]; · iexact HD
    iexact HE
  exact h5 _ _ _ _ _

/-- What the hops take, gathered by hop. -/
theorem hops_in (f : Buf (Elt F) (oM.view.loc (c : Thread nD τ))) :
    iprop(all3 (recvRes c) ∗ (all3 fun d h s => next (fun h => sendRes c d h s) h)
        ∗ bigSep Finset.univ fun h : Fin 7 => bigSep Finset.univ fun d => mpt c (outV c d h.succ) fullShare f)
      ⊢ bigSep Finset.univ (hopIn (F := F) c) := by
  unfold hopIn
  rw [bigSep_sep', ← all3_hop (fun d h s => passIn (F := F) c h s d), all3_sep]
  have hm : (bigSep Finset.univ fun h : Fin 7 => bigSep Finset.univ fun d => mpt c (outV c d h.succ) fullShare f : sProp 𝕄)
      ⊢ bigSep Finset.univ fun h : Fin 7 => bigSep Finset.univ fun d => iprop(∃ g, mpt (F := F) c (outV c d h.succ) fullShare g) :=
    bigSep_mono fun h _ => bigSep_mono fun d _ => mpt_any c (outV c d h.succ) fullShare f
  iintro ⟨H1, H2, H3⟩
  isplitl [H1 H2]
  · isplitl [H1]; · iexact H1
    iexact H2
  iapply hm; iexact H3

/-- What the hops leave, gathered by transfer. -/
theorem hops_out :
    bigSep Finset.univ (hopOut I c)
      ⊢ iprop((all3 (fun d h s => atPos ER (recvCell c d h s) 1 ∅ 0) ∗ all3 fun d h s => kept I c d s h) ∗ (all3 fun d h s => mpt c (piece d h s) qL (comC I c d))
        ∗ bigSep Finset.univ fun h : Fin 7 => bigSep Finset.univ fun d => mpt c (outV c d h.castSucc) fullShare (outC I c)) := by
  unfold hopOut
  rw [bigSep_sep', bigSep_sep', ← all3_hop (fun d h s => iprop(atPos ER (recvCell c d h s) 1 ∅ 0 ∗ kept I c d s h)), all3_sep, slots_left]

/-- The last blocks land. -/
theorem last_waits :
    iprop(recs I κ ∗ ow c ∅ ∗ bigSep Finset.univ fun d => oFlight I c d 7)
      ⊢ WP c (forP 2 fun d => outWaitP c d 7) fun _ => iprop(ow c ∅ ∗ bigSep Finset.univ fun d => iprop(mpt c (outV c d 7) fullShare (outC I c) ∗ oIdle c d)) := by
  refine wp_for (recs I κ) 2 _ (fun _ => ow c ∅) _ _ fun d => ?_
  iintro ⟨#HR, HO, Hf⟩
  iapply (wp_wand_r frame _ Set.univ)
  isplitl
  · iapply (outWait_step I κ c ∅ d 7)
    isplitr; · iexact HR
    isplitl [Hf]; · iexact Hf
    iexact HO
  iintro %a ⟨⟨Hp, Hst⟩, Hv, HO⟩
  isplitl [HO]; · iexact HO
  isplitl [Hp]; · iexact Hp
  isplitl [Hv]; · iexact Hv
  iexact Hst

/-- The first blocks: the device's own rows. -/
theorem own_blocks (S : Finset Hop) (f : Buf (Elt F) (oM.view.loc (c : Thread nD τ))) :
    iprop(recs I κ ∗ stay I c S ∗ mpt c xM qL (I.x c) ∗ bigSep Finset.univ (oIdle c) ∗ bigSep Finset.univ fun d => mpt c (outV c d 0) fullShare f)
      ⊢ WP c (forP 2 fun d => gemmP c (scal I c) d 0) fun _ => iprop(stay I c S ∗ mpt c xM qL (I.x c) ∗ bigSep Finset.univ fun d => oFlight I c d 0) := by
  have hin : iprop((bigSep Finset.univ fun d => chunkRes I c d 0) ∗ bigSep Finset.univ (oIdle c) ∗ bigSep Finset.univ fun d => mpt c (outV c d 0) fullShare f)
      ⊢ bigSep Finset.univ (gemmIn I c 0) := by
    have e : bigSep Finset.univ (gemmIn I c 0) = iprop((bigSep Finset.univ fun d => chunkRes I c d 0) ∗ (bigSep Finset.univ fun d => oSt I c d 0)
        ∗ bigSep Finset.univ fun d => iprop(∃ g, mpt (F := F) c (outV c d 0) fullShare g)) := by
      unfold gemmIn; rw [bigSep_sep', bigSep_sep']
    have hm : (bigSep Finset.univ fun d => mpt c (outV c d 0) fullShare f : sProp 𝕄) ⊢ bigSep Finset.univ fun d => iprop(∃ g, mpt (F := F) c (outV c d 0) fullShare g) :=
      bigSep_mono fun d _ => mpt_any c (outV c d 0) fullShare f
    rw [e]
    iintro ⟨H1, H2, H3⟩
    isplitl [H1]; · iexact H1
    isplitl [H2]; · iexact H2
    iapply hm; iexact H3
  have hout : bigSep Finset.univ (gemmOut I c 0) ⊢ iprop((bigSep Finset.univ fun d => chunkRes I c d 0) ∗ (bigSep Finset.univ fun d => oFlight I c d 0) ∗ bigSep Finset.univ fun d => oPrev I c d 0) := by
    unfold gemmOut
    rw [bigSep_sep', bigSep_sep']
  rw [x_loads]
  iintro ⟨#HR, Hst, Hx, Hi, Ho⟩
  iapply (wp_wand_r frame _ Set.univ)
  isplitl
  · iapply (gemm_both I κ c S 0)
    isplitr; · iexact HR
    isplitl [Hst]; · iexact Hst
    iapply hin
    isplitl [Hx]; · iexact Hx
    isplitl [Hi]; · iexact Hi
    iexact Ho
  iintro %a ⟨Hst, Hg⟩
  ihave Hg2 := hout $$ Hg
  icases Hg2 with ⟨Hx, Hf, -⟩
  isplitl [Hst]; · iexact Hst
  isplitl [Hx]; · iexact Hx
  iexact Hf

/-- The hops, one after the other. -/
theorem all_hops :
    iprop(recs I κ ∗ hopInv I c 0 ∗ bigSep Finset.univ (hopIn c)) ⊢ WP c (forP 7 (hopP c (scal I c))) fun _ => iprop(hopInv I c 7 ∗ bigSep Finset.univ (hopOut I c)) :=
  wp_for (recs I κ) 7 _ (hopInv I c) _ _ (hop_step I κ c)

/-- The body after the device has read its own number. -/
def bodyRest : Pg F PUnit := do
  semSignalWord (tgt c 1) barS 1#32
  semSignalWord (tgt c 0) barS 1#32
  semWaitWord barS 2#32
  forP 2 fun d => forP 2 fun s => sendP c d 0 s
  forP 2 fun i => wStartP (Fin.castLE (by decide) i)
  forP 8 wP
  let a : Elt F .f32 ← smemLoad sxM (Rect.unit (s := S1) ![0] S1.size inb_S1_S1_0) numel1_S1 rfl
  let b : Elt F .f32 ← smemLoad swM (Rect.unit (s := S1) ![0] S1.size inb_S1_S1_0) numel1_S1 rfl
  forP 2 fun d => gemmP c (Scalar.mulf a b) d 0
  forP 7 (hopP c (Scalar.mulf a b))
  forP 2 fun d => forP 7 fun h => forP 2 fun s => sentP d h s
  forP 2 fun d => outWaitP c d 7
theorem bodyP_rest : (bodyP (F := F)) = (Prog.lift .deviceId >>= fun c : Dev nD => bodyRest c) := rfl

theorem w_parts : (mpt c wM fullShare (I.w c) : sProp 𝕄) = iprop(mpt c (wV 0) fullShare (I.w c) ∗ mpt c (wV 1) fullShare (I.w c)
    ∗ bigSep Finset.univ (next (next fun k => mpt c (wV k) fullShare (I.w c)))) := by
  rw [w_cut, big_next (n := 7), big_next (n := 7) (next fun k => mpt c (wV k) fullShare (I.w c))]; rfl
theorem idle_two : bigSep Finset.univ (wIdle (F := F) c) = iprop(wIdle c 0 ∗ wIdle c 1) := bigSep_fin_two _

/-- The body, from start to end. -/
theorem rest_run : iprop(recs I κ ∗ bodyIn I c) ⊢ WP c (bodyRest c) fun _ => bodyOut I c := by
  have hs0 := signal_step I κ c 0 (dues c (hops 0) + tallyAt (barCell (tgt c 0)) () 1)
  have hs1 := signal_step I κ c 1 (dues c (hops 0))
  have hsend : iprop(all3 (sendRes (F := F) c) ∗ bigSep Finset.univ fun d => bigSep Finset.univ fun s => mpt c (xPiece d s) qR (I.x c))
      ⊢ iprop((bigSep Finset.univ fun d => bigSep Finset.univ fun s => iprop(sendRes c d 0 s ∗ sendPay I c d 0 s)) ∗ all3 fun d h s => next (fun h => sendRes (F := F) c d h s) h) := by
    rw [all3_next]
    have e : (bigSep Finset.univ fun d => bigSep Finset.univ fun s => iprop(sendRes c d 0 s ∗ sendPay I c d 0 s))
        = iprop((bigSep Finset.univ fun d => bigSep Finset.univ fun s => sendRes (F := F) c d 0 s) ∗ bigSep Finset.univ fun d => bigSep Finset.univ fun s => mpt c (xPiece d s) qR (I.x c)) := by
      rw [← bigSep_sep']; exact bigSep_congr fun d _ => bigSep_sep' _ _ _
    rw [e]
    iintro ⟨⟨H1, H2⟩, H3⟩
    isplitl [H1 H3]
    · isplitl [H1]; · iexact H1
      iexact H3
    iexact H2
  have hsx := smem_step c sxM (I.sx c) (I.sx c) fun _ => rfl
  have hsw := smem_step c swM (I.sw c) (I.sw c) fun _ => rfl
  have h0 := hopInv_lt I c (show 0 < 8 by decide)
  have h7 := hopInv_lt I c (show 7 < 8 by decide)
  rw [hops_none (n := 7 + 1) (by decide)] at h7
  have hsent := all_sent I κ c
  rw [← all3_dhs (fun d h s => flyRes (F := F) c d h s), ← all3_dhs (fun d h s => iprop(atPos ER (sendCell c d h s) 1 ∅ 0 ∗ sendPay I c d h s)), all3_sep] at hsent
  have hlast : (bigSep Finset.univ fun d => iprop(mpt c (outV c d 7) fullShare (outC I c) ∗ oIdle c d))
      = iprop((bigSep Finset.univ fun d => mpt c (outV c d 7) fullShare (outC I c)) ∗ bigSep Finset.univ (oIdle (F := F) c)) := bigSep_sep' _ _ _
  have how : ow (F := F) c ∅ ⊢ iprop(∃ W, owes (c : Thread nD τ) 0 W) := by unfold ow; rw [dues_empty]
  unfold bodyIn bodyOut bodyRest
  iintro ⟨#HR, ⟨Hcb, Hab, Ht0, Ht1⟩, ⟨Hsg, Hrv, Hrr⟩, Hcom, ⟨Hx, Hsx, Hsw, Hw⟩, ⟨⟨%fo, Ho⟩, Hwb⟩, ⟨Hwi, Hoi⟩, HO⟩
  ihave Hg := (give_all (F := F) c) $$ [Hcom Hrr]
  · isplitl [Hcom]; · iexact Hcom
    iexact Hrr
  icases Hg with ⟨Hg0, Hg1⟩
  -- the barrier
  iapply (bind_step hs0) $$ [HO Ht0 Hg0]
  · isplitr; · iexact HR
    isplitl [HO]; · iexact HO
    isplitl [Ht0]; · iexact Ht0
    iexact Hg0
  iintro %u1 HO
  iapply (bind_step hs1) $$ [HO Ht1 Hg1]
  · isplitr; · iexact HR
    isplitl [HO]; · iexact HO
    isplitl [Ht1]; · iexact Ht1
    iexact Hg1
  iintro %u2 HO
  iapply (bind_step (wait_step I κ c)) $$ [HO Hcb Hab]
  · isplitr; · iexact HR
    isplitl [Hcb]; · iexact Hcb
    isplitl [Hab]; · iexact Hab
    unfold ow; iexact HO
  iintro %u3 ⟨Hab, Hp, HO⟩
  -- the first sends
  ihave Hx2 := (halve c xM (I.x c)) $$ Hx
  icases Hx2 with ⟨HxL, HxR⟩
  ihave HxR2 := (Entails.of_eq (x_parts I c qR)) $$ HxR
  ihave Hsr := (take_all (F := F) c) $$ [Hsg Hp]
  · isplitl [Hsg]; · iexact Hsg
    iexact Hp
  ihave Hsr2 := hsend $$ [Hsr HxR2]
  · isplitl [Hsr]; · iexact Hsr
    iexact HxR2
  icases Hsr2 with ⟨Hs0, Hsn⟩
  iapply (bind_step (first_sends I κ c)) $$ [HO Hs0]
  · isplitr; · iexact HR
    isplitl [HO]; · iexact HO
    iexact Hs0
  iintro %u4 ⟨HO, Hf0⟩
  -- the weights
  ihave Hwi2 := (Entails.of_eq (idle_two (F := F) c)) $$ Hwi
  icases Hwi2 with ⟨Hi0, Hi1⟩
  ihave Hw2 := (Entails.of_eq (w_parts I c)) $$ Hw
  icases Hw2 with ⟨Hw0, Hw1, Hwn⟩
  iapply (bind_step (w_first I c)) $$ [Hi0 Hi1 Hw0 Hw1]
  · isplitl [Hi0]; · iexact Hi0
    isplitl [Hi1]; · iexact Hi1
    isplitl [Hw0]; · iexact Hw0
    iexact Hw1
  iintro %u5 ⟨Hw0, Hw1⟩
  iapply (bind_step (w_loop I κ c (hops 1))) $$ [HO Hw0 Hw1 Hwn Hwb]
  · isplitr; · iexact HR
    isplitl [HO Hw0 Hw1]
    · isplitl [Hw0]; · iexact Hw0
      isplitl [Hw1]; · iexact Hw1
      iexact HO
    isplitl [Hwb]; · iexact Hwb
    iexact Hwn
  iintro %u6 ⟨⟨Hi0, Hi1, HO⟩, Hwb, Hw⟩
  -- the scales
  iapply (bind_step hsx) $$ [Hsx]
  · iexact Hsx
  iintro %a ⟨%ha, Hsx⟩
  iapply (bind_step hsw) $$ [Hsw]
  · iexact Hsw
  iintro %b ⟨%hb, Hsw⟩
  subst ha hb
  -- the device's own blocks
  ihave Ho2 := (Entails.of_eq (out_parts c fo)) $$ Ho
  icases Ho2 with ⟨Ho0, Hon⟩
  iapply (bind_step (own_blocks I κ c (hops 1) fo)) $$ [HO Hwb HxL Hoi Ho0]
  · isplitr; · iexact HR
    isplitl [HO Hwb]
    · isplitl [Hwb]; · iexact Hwb
      iexact HO
    isplitl [HxL]; · iexact HxL
    isplitl [Hoi]; · iexact Hoi
    iexact Ho0
  iintro %u7 ⟨Hst, HxL, Hof⟩
  -- the hops
  iapply (bind_step (all_hops I κ c)) $$ [Hst Hof Hrv Hsn Hon]
  · isplitr; · iexact HR
    isplitl [Hst Hof]
    · rw [h0]
      isplitl [Hst]; · iexact Hst
      iexact Hof
    iapply (hops_in (F := F) c fo)
    isplitl [Hrv]; · iexact Hrv
    isplitl [Hsn]; · iexact Hsn
    iexact Hon
  iintro %u8 ⟨Hinv, Hout⟩
  ihave Hinv2 := (Entails.of_eq h7) $$ Hinv
  icases Hinv2 with ⟨⟨Hwb, HO⟩, Hof⟩
  ihave Hout2 := (hops_out I c) $$ Hout
  icases Hout2 with ⟨⟨Hra, Hk⟩, HpL, Hob⟩
  ihave Hk2 := (kept_sum I c) $$ [Hf0 Hk]
  · isplitl [Hf0]; · iexact Hf0
    iexact Hk
  icases Hk2 with ⟨Hfl, Hp6⟩
  -- the departures
  iapply (bind_step hsent) $$ [HO Hfl]
  · isplitr; · iexact HR
    isplitl [HO]; · iexact HO
    iexact Hfl
  iintro %u9 ⟨HO, Hsa, Hsp⟩
  ihave Hsp2 := (sent_sum I c) $$ [Hsp Hp6]
  · isplitl [Hsp]; · iexact Hsp
    iexact Hp6
  icases Hsp2 with ⟨HxR, HpR⟩
  -- the last blocks
  iapply (wp_wand_r frame _ Set.univ)
  isplitl [HO Hof]
  · iapply (last_waits I κ c)
    isplitr; · iexact HR
    isplitl [HO]; · iexact HO
    iexact Hof
  iintro %u10 ⟨HO, Hl⟩
  ihave Hl2 := (Entails.of_eq hlast) $$ Hl
  icases Hl2 with ⟨Ho7, Hoi⟩
  isplitl [Hab]; · iexact Hab
  isplitl [Hsa Hra]
  · isplitl [Hsa]; · iexact Hsa
    iexact Hra
  isplitl [HpL HpR]
  · iapply (com_whole I c)
    isplitl [HpL]; · iexact HpL
    iexact HpR
  isplitl [HxL HxR Hsx Hsw Hw]
  · isplitl [HxL HxR]
    · iapply (unhalve c xM (I.x c))
      isplitl [HxL]; · iexact HxL
      iapply (Entails.of_eq (x_parts I c qR).symm); iexact HxR
    isplitl [Hsx]; · iexact Hsx
    isplitl [Hsw]; · iexact Hsw
    iapply (Entails.of_eq (w_cut c fullShare (I.w c)).symm); iexact Hw
  isplitl [Hob Ho7 Hwb]
  · isplitl [Hob Ho7]
    · iapply (Entails.of_eq (out_parts_last c (outC I c)).symm)
      isplitl [Hob]; · iexact Hob
      iexact Ho7
    iexists _; iexact Hwb
  isplitl [Hi0 Hi1 Hoi]
  · isplitl [Hi0 Hi1]
    · iapply (Entails.of_eq (idle_two (F := F) c).symm)
      isplitl [Hi0]; · iexact Hi0
      iexact Hi1
    iexact Hoi
  iapply how; iexact HO

/-- The body as the kernel runs it. -/
theorem body_run : iprop(recs I κ ∗ bodyIn I c) ⊢ WP c bodyP fun _ => bodyOut I c := by
  rw [bodyP_rest]
  unfold WP Prog.lift
  rw [wp_bind, wp_deviceId, wp_ret]
  iintro H
  imodintro
  iapply (rest_run I κ c); iexact H

end Cert.KernelIdeal.Proof

end
-- ==== Proof.Region.lean ====
/- The kernel's call as a region of @main: what it holds before and after, its body's obligation, its semaphores going in and coming back. -/
module

public import proofs.«01_k».proof.Proof.Body
public import proofs.«01_k».proof.Proof.Gen.KernelIdeal.Launch
public import proofs.«01_k».proof.Proof.Gen.KernelIdeal.Points

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds Idealize.ShloMosaic.Transfers
open Cert.KernelIdeal.Gen

variable {F : FTy → Type} [FloatOps F]

local notation "𝕄" => MM F

open Idealize.ShloMosaic.Pipeline (Dat BodyObligation)

variable (m : (ℓ : Loc nD τ sig) → Buf (Elt F) ℓ) (c : Dev nD)

/-! ## The buffers of @main -/

/-- What the devices start from, read off the memory. -/
def inp : Inp F where
  x c := m ((c : Thread nD τ).loc main_arg0)
  w c := m ((c : Thread nD τ).loc main_arg1)
  sx c := m ((c : Thread nD τ).loc main_arg2)
  sw c := m ((c : Thread nD τ).loc main_arg3)

abbrev pt (r : Ref sig .tc) (f : Buf (Elt F) ((c : Thread nD τ).loc r)) : sProp 𝕄 := ((c : Thread nD τ).loc r) ↦{fullShare} f

/-- At launch; after the call, its result in place; after the conversion of the result. -/
def V₀ : Valuation τ sig (Elt F) := fun b => m (c, b)
def V₁ : Valuation τ sig (Elt F) := Function.update (V₀ m c) (Proc.devRef .tc main_v1) (outC (inp m) c)
def V₂ : Valuation τ sig (Elt F) := StableHlo.after hostOps1 (V₁ m c)

theorem V₁_v1 : V₁ m c (Proc.devRef .tc main_v1) = outC (inp m) c := Function.update_self ..
theorem V₁_ne (r : Ref sig .tc) (h : r ≠ main_v1) : V₁ m c (Proc.devRef .tc r) = V₀ m c (Proc.devRef .tc r) :=
  Function.update_of_ne (StableHlo.devRef_ne_of_ne h) ..

/-- The call's operands that are not windows: the weights, and the result. -/
def passed : Finset (DevRef τ sig) := {Proc.devRef .tc main_arg1, Proc.devRef .tc main_v1}
/-- Every buffer of @main that is no window's array. -/
def others : Finset (DevRef τ sig) := {Proc.devRef .tc main_arg1, Proc.devRef .tc main_v1, Proc.devRef .tc main_v2}

theorem passed_eq (W : Valuation τ sig (Elt F)) : (StableHlo.held (c : Thread nD τ) passed W : sProp 𝕄)
    = iprop(pt c main_arg1 (W (Proc.devRef .tc main_arg1)) ∗ pt c main_v1 (W (Proc.devRef .tc main_v1))) := by
  unfold StableHlo.held
  rw [bigSep_eq_bigSepL_of_eq [Proc.devRef .tc main_arg1, Proc.devRef .tc main_v1] (by decide) (by decide)]
  rfl

/-! ## The semaphores of the kernel -/

/-- The kernel's own semaphores: two for each transfer, two for each of the two local copies' pairs of buffers. -/
abbrev Own : Type := (Fin 2 × Hop) ⊕ (Fin 2 × Fin 2)
abbrev osem : Own → SemLoc sig
  | .inl q => hopSem q
  | .inr (0, k) => .dma (wS k)
  | .inr (1, k) => .dma (oS k)

set_option maxRecDepth 100000 in
theorem own_facts : Pipeline.OwnSemFacts spec0 osem := by decide +kernel

/-- The two semaphores of a transfer, both idle. -/
abbrev hopIdle (d : Fin 2) (h : Fin 7) (s : Fin 2) : sProp 𝕄 := iprop(semVal (sendCell c d h s) 0 ∗ semVal (recvCell c d h s) 0)
abbrev localIdle : sProp 𝕄 :=
  iprop((bigSep Finset.univ fun k : Fin 2 => semVal ((c : Thread nD τ), .dma (wS k)) 0) ∗ bigSep Finset.univ fun k : Fin 2 => semVal ((c : Thread nD τ), .dma (oS k)) 0)

theorem all3_flat (X : Fin 2 → Fin 7 → Fin 2 → sProp 𝕄) : (bigSep Finset.univ fun p : Hop => X p.1 p.2.1 p.2.2) = all3 X := by
  rw [bigSep_univ_prod, all3_prod]
theorem ends_flat (X : Fin 2 × Hop → sProp 𝕄) :
    bigSep Finset.univ X = all3 fun d h s => iprop(X (0, d, h, s) ∗ X (1, d, h, s)) := by
  rw [bigSep_univ_prod, BI.bigSep_fin_two, all3_sep, ← all3_flat, ← all3_flat]
  rfl

theorem own_idle : (Pipeline.ownSems0 osem c : sProp 𝕄) = iprop(all3 (hopIdle c) ∗ localIdle c) := by
  have e1 : (bigSep Finset.univ fun q : Fin 2 × Hop => (semVal ((c : Thread nD τ), osem (.inl q)) 0 : sProp 𝕄)) = all3 (hopIdle c) := ends_flat _
  have e2 : (bigSep Finset.univ fun q : Fin 2 × Fin 2 => (semVal ((c : Thread nD τ), osem (.inr q)) 0 : sProp 𝕄)) = localIdle c := by
    rw [bigSep_univ_prod, BI.bigSep_fin_two]; rfl
  unfold Pipeline.ownSems0
  rw [BI.bigSep_univ_sum, e1, e2]; rfl

/-! ## Opening and closing the cells -/

/-- What the launch deals a device for one transfer: it may open both ends' cells on it, it pays its own departure and
    the neighbour's arrival, and it may collect its own arrival. -/
abbrev dealt (d : Fin 2) (h : Fin 7) (s : Fin 2) : sProp 𝕄 :=
  iprop((openTok ER (sendCell c d h s) ∗ openTok ER (recvCell c d h s))
    ∗ (dutyTok ER (sendCell c d h s) 0 0 ∗ dutyTok ER (recvCell (tgt c d) d h s) 0 0) ∗ cred (tallyAt (recvCell c d h s) () N))

variable (I : Inp F) (κ : GSem nD τ sig → ℕ)

theorem hop_open (d : Fin 2) (h : Fin 7) (s : Fin 2) :
    iprop(recs I κ ∗ dealt c d h s ∗ hopIdle c d h s)
      ⊢ |={Set.univ}=> iprop(sendGift c d h s ∗ recvRes c d h s ∗ reached ER (recvCell c d h s) 0) := by
  iintro ⟨#HR, ⟨⟨HoS, HoV⟩, ⟨HtS, HtV⟩, Hc⟩, ⟨Hs, Hv⟩⟩
  imod (Rounds.cell_open ER (rd I) (g := sendCell c d h s) (Set.mem_univ (κ (sendCell c d h s)))) $$ [HoS Hs] with ⟨HaS, HrS⟩
  · isplitr; · iapply (recs_inv I κ (send_mem c d h s)); iexact HR
    isplitl [HoS] <;> iassumption
  imod (Rounds.cell_open ER (rd I) (g := recvCell c d h s) (Set.mem_univ (κ (recvCell c d h s)))) $$ [HoV Hv] with ⟨HaV, HrV⟩
  · isplitr; · iapply (recs_inv I κ (recv_mem c d h s)); iexact HR
    isplitl [HoV] <;> iassumption
  imodintro
  isplitl [HtS HtV HaS HrS]
  · isplitl [HtS]; · iexact HtS
    isplitl [HtV]; · iexact HtV
    isplitl [HaS] <;> iassumption
  isplitl [Hc HaV]
  · unfold recvRes
    isplitl [Hc] <;> iassumption
  iexact HrV

theorem hop_close (d : Fin 2) (h : Fin 7) (s : Fin 2) :
    iprop(recs I κ ∗ atPos ER (sendCell c d h s) 1 ∅ 0 ∗ atPos ER (recvCell c d h s) 1 ∅ 0) ⊢ |={Set.univ}=> hopIdle c d h s := by
  iintro ⟨#HR, HaS, HaV⟩
  imod (Rounds.cell_close ER (rd I) (Set.mem_univ (κ (sendCell c d h s))) id (duties_later I (sendCell c d h s))) $$ [HaS] with Hs
  · isplitr; · iapply (recs_inv I κ (send_mem c d h s)); iexact HR
    iexact HaS
  imod (Rounds.cell_close ER (rd I) (Set.mem_univ (κ (recvCell c d h s))) id (duties_later I (recvCell c d h s))) $$ [HaV] with Hv
  · isplitr; · iapply (recs_inv I κ (recv_mem c d h s)); iexact HR
    iexact HaV
  imodintro
  isplitl [Hs] <;> iassumption

theorem bar_close : iprop(recs I κ ∗ atPos ER (barCell c) 1 ∅ 0) ⊢ |={Set.univ}=> semVal (barCell c) 0 := by
  iintro ⟨#HR, Ha⟩
  imod (Rounds.cell_close ER (rd I) (Set.mem_univ (κ (barCell c))) id (duties_later I (barCell c))) $$ [Ha] with Hs
  · isplitr; · iapply (recs_inv I κ (Finset.mem_union_left _ (bar_mem c))); iexact HR
    iexact Ha
  imodintro; iexact Hs

/-- An update at every transfer is one update. -/
theorem all3_upd {R : sProp 𝕄} [BI.Persistent R] {X Y : Fin 2 → Fin 7 → Fin 2 → sProp 𝕄}
    (h : ∀ d h s, iprop(R ∗ X d h s) ⊢ |={Set.univ}=> Y d h s) : iprop(R ∗ all3 X) ⊢ |={Set.univ}=> all3 Y := by
  rw [← all3_flat X, ← all3_flat Y]
  exact (bigSep_with_persistent fun p _ => h p.1 p.2.1 p.2.2).trans (bigSep_fupd _ _)

/-- What comes from the launch to the call. -/
def Tk : sProp 𝕄 := iprop(∃ κ, recs I κ ∗ barGift c ∗ all3 (dealt c))
/-- What the call starts with beside its buffers, the cells open. -/
def Xk : sProp 𝕄 := iprop((∃ κ, recs I κ ∗ barGift c ∗ all3 (sendGift c) ∗ all3 (recvRes c) ∗ all3 fun d h s => reached ER (recvCell c d h s) 0) ∗ localIdle c)

theorem open_all : iprop(Tk c I ∗ Pipeline.ownSems0 osem c ∗ levAts L lv) ⊢ |={Set.univ}=> Xk c I := by
  have hop (κ : GSem nD τ sig → ℕ) : iprop(recs I κ ∗ all3 (dealt c) ∗ all3 (hopIdle c))
      ⊢ |={Set.univ}=> iprop(all3 (sendGift c) ∗ all3 (recvRes c) ∗ all3 fun d h s => reached ER (recvCell c d h s) 0) := by
    rw [← all3_sep, ← all3_sep, ← all3_sep]
    exact all3_upd (hop_open c I κ)
  rw [own_idle]
  unfold Tk Xk
  iintro ⟨⟨%κ, #HR, Hb, Hd⟩, ⟨Hi, Hl⟩, -⟩
  imod (hop κ) $$ [Hd Hi] with H
  · isplitr; · iexact HR
    isplitl [Hd] <;> iassumption
  imodintro
  isplitr [Hl]
  · iexists κ
    isplitr; · iexact HR
    isplitl [Hb]; · iexact Hb
    iexact H
  iexact Hl

theorem close_all :
    iprop(recs I κ ∗ atPos ER (barCell c) 1 ∅ 0 ∗ (all3 (fun d h s => atPos ER (sendCell c d h s) 1 ∅ 0) ∗ all3 fun d h s => atPos ER (recvCell c d h s) 1 ∅ 0))
      ⊢ |={Set.univ}=> iprop(semVal (barCell c) 0 ∗ all3 (hopIdle c)) := by
  have hop : iprop(recs I κ ∗ (all3 (fun d h s => atPos ER (sendCell c d h s) 1 ∅ 0) ∗ all3 fun d h s => atPos ER (recvCell c d h s) 1 ∅ 0))
      ⊢ |={Set.univ}=> all3 (hopIdle c) := by
    rw [← all3_sep (fun d h s => atPos ER (sendCell c d h s) 1 ∅ 0)]
    exact all3_upd (hop_close c I κ)
  iintro ⟨#HR, Hb, Ha⟩
  imod (bar_close c I κ) $$ [Hb] with Hs
  · isplitr; · iexact HR
    iexact Hb
  imod hop $$ [Ha] with Hi
  · isplitr; · iexact HR
    iexact Ha
  imodintro
  isplitl [Hs] <;> iassumption

/-! ## The region's data -/

/-- Before the call: its scratch buffers, its weights and its result's place, what it was dealt. -/
def Φin : sProp 𝕄 :=
  iprop(Pipeline.scopedRest spec0 c ∗ (∃ r, prngReg c r) ∗ StableHlo.held (c : Thread nD τ) passed (V₀ m c) ∗ Xk c (inp m))
/-- After the call: the same, the result in place, every semaphore idle. -/
def Φout : sProp 𝕄 :=
  iprop(Pipeline.scopedRest spec0 c ∗ (∃ r, prngReg c r) ∗ StableHlo.held (c : Thread nD τ) passed (V₁ m c) ∗ Pipeline.ownSems0 osem c ∗ semVal (barCell c) 0)

def dat : Dat τ (Elt F) Unit ℕ UU ℕ cfg0 c where
  A w := V₀ m c (Proc.devRef .tc (Pipeline.arrRef spec0 w))
  after | 0, _ => (inp m).x c | 1, _ => (inp m).sx c | 2, _ => (inp m).sw c
  Φ t := if t.val = 0 then Φin m c else Φout m c
  q _ := fullShare
  owed t := if t.val = 0 then O₀ c else 0

theorem dat_first : (dat m c).Φ t0_0.castSucc = Φin m c := by dsimp only [dat]; exact if_pos rfl
theorem dat_last : (dat m c).Φ t0_0.succ = Φout m c := by dsimp only [dat]; exact if_neg (by decide)
theorem owed_first : (dat m c).owed t0_0.castSucc = O₀ c := by dsimp only [dat]; exact if_pos rfl
theorem owed_last : (dat m c).owed t0_0.succ = 0 := by dsimp only [dat]; exact if_neg (by decide)

theorem owes_intro (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W
  isplitr; · ipureintro; exact fun _ _ => Or.inl trivial
  iexact HO
theorem owes_elim (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! A window's one block is its whole array. -/

theorem before_x (d) : (dat m c).before 0 t0_0 d = (inp m).x c := by
  have e (y : S512x4096.Idx) : ((win0 0).rect t0_0).emb y = y := funext fun a => Fin.ext ((win0 0).rect_emb_val_of_index_zero t0_0 a rfl y)
  rw [(dat m c).before_in_eq_fetched 0 rfl (fun _ => rfl) (fun _ _ _ => rfl) (fun t => by
    obtain rfl := fin_N0 t
    funext y; exact congrArg ((inp m).x c) (e y).symm)]
  funext y; exact congrArg ((inp m).x c) (e y)
theorem before_sx (d) : (dat m c).before 1 t0_0 d = (inp m).sx c := by
  have e (y : S1.Idx) : ((win0 1).rect t0_0).emb y = y := funext fun a => Fin.ext ((win0 1).rect_emb_val_of_index_zero t0_0 a rfl y)
  rw [(dat m c).before_in_eq_fetched 1 rfl (fun _ => rfl) (fun _ _ _ => rfl) (fun t => by
    obtain rfl := fin_N0 t
    funext y; exact congrArg ((inp m).sx c) (e y).symm)]
  funext y; exact congrArg ((inp m).sx c) (e y)
theorem before_sw (d) : (dat m c).before 2 t0_0 d = (inp m).sw c := by
  have e (y : S1.Idx) : ((win0 2).rect t0_0).emb y = y := funext fun a => Fin.ext ((win0 2).rect_emb_val_of_index_zero t0_0 a rfl y)
  rw [(dat m c).before_in_eq_fetched 2 rfl (fun _ => rfl) (fun _ _ _ => rfl) (fun t => by
    obtain rfl := fin_N0 t
    funext y; exact congrArg ((inp m).sw c) (e y).symm)]
  funext y; exact congrArg ((inp m).sw c) (e y)

/-! ## The body's obligation -/

theorem mpt_whole (r : Ref sig .tc) (q : PosShare TreeShare) (f : Buf (Elt F) ((c : Thread nD τ).loc r)) :
    (mpt c (Memref.whole r) q f : sProp 𝕄) = ((c : Thread nD τ).loc r) ↦{q} f := by
  show ((Memref.whole r).view.loc (c : Thread nD τ) ↦[(View.whole r).set]{q} f : sProp 𝕄) = _
  rw [View.set_whole]

/-- The scratch buffers, by what they are for. -/
theorem scratch_eq : (Pipeline.scopedRest spec0 c : sProp 𝕄)
    = iprop((∃ f, mpt (F := F) c wbM fullShare f) ∗ (∃ f, mpt (F := F) c bufM fullShare f)
      ∗ (∃ f, mpt (F := F) c (comM 0) fullShare f) ∗ (∃ f, mpt (F := F) c (comM 1) fullShare f) ∗ ∃ f, mpt (F := F) c stM fullShare f) := by
  have e (r : Ref sig .tc) : (iprop(∃ f : Buf (Elt F) ((c : Thread nD τ).loc r), ((c : Thread nD τ).loc r) ↦{fullShare} f) : sProp 𝕄)
      = iprop(∃ f, mpt (F := F) c (Memref.whole r) fullShare f) := congrArg _ (funext fun f => (mpt_whole c r fullShare f).symm)
  rw [scopedRest0_eq, e, e, e, e, e]

/-- The weights' buffers and semaphores, idle, are the two buffers together and the two semaphores. -/
theorem w_in : iprop((∃ f, mpt (F := F) c bufM fullShare f) ∗ bigSep Finset.univ fun k : Fin 2 => semVal ((c : Thread nD τ), .dma (wS k)) 0)
    ⊢ bigSep Finset.univ (wIdle (F := F) c) := by
  have h (f) : iprop((bigSep Finset.univ fun k : Fin 2 => semVal ((c : Thread nD τ), .dma (wS k)) 0) ∗ mpt c bufM fullShare f)
      ⊢ bigSep Finset.univ (wIdle (F := F) c) := by
    rw [buf_cut, ← bigSep_sep']
    exact bigSep_mono fun k _ => sep_mono_right (mpt_any c (bufV k) fullShare f)
  iintro ⟨⟨%f, Hf⟩, Hs⟩
  iapply (h f)
  isplitl [Hs] <;> iassumption
include I in
theorem w_out : bigSep Finset.univ (wIdle (F := F) c)
    ⊢ iprop((∃ f, mpt (F := F) c bufM fullShare f) ∗ bigSep Finset.univ fun k : Fin 2 => semVal ((c : Thread nD τ), .dma (wS k)) 0) := by
  have h := buf_join (F := F) c fullShare fun _ => I.sx c (ix1 0)
  have e : bigSep Finset.univ (wIdle (F := F) c) = iprop((bigSep Finset.univ fun k : Fin 2 => semVal ((c : Thread nD τ), .dma (wS k)) 0)
      ∗ bigSep Finset.univ fun k : Fin 2 => iprop(∃ f, mpt (F := F) c (bufV k) fullShare f)) := bigSep_sep' _ _ _
  rw [e]
  iintro ⟨Hs, Hf⟩
  isplitl [Hf]; · iapply h; iexact Hf
  iexact Hs
theorem o_in : iprop((∃ f, mpt (F := F) c stM fullShare f) ∗ bigSep Finset.univ fun k : Fin 2 => semVal ((c : Thread nD τ), .dma (oS k)) 0)
    ⊢ bigSep Finset.univ (oIdle (F := F) c) := by
  have h (f) : iprop((bigSep Finset.univ fun k : Fin 2 => semVal ((c : Thread nD τ), .dma (oS k)) 0) ∗ mpt c stM fullShare f)
      ⊢ bigSep Finset.univ (oIdle (F := F) c) := by
    rw [st_cut, ← bigSep_sep']
    exact bigSep_mono fun k _ => sep_mono_right (mpt_any c (stV k) fullShare f)
  iintro ⟨⟨%f, Hf⟩, Hs⟩
  iapply (h f)
  isplitl [Hs] <;> iassumption
include I in
theorem o_out : bigSep Finset.univ (oIdle (F := F) c)
    ⊢ iprop((∃ f, mpt (F := F) c stM fullShare f) ∗ bigSep Finset.univ fun k : Fin 2 => semVal ((c : Thread nD τ), .dma (oS k)) 0) := by
  have h := st_join (F := F) c fullShare fun _ => outC I c (ix2 0 0)
  have e : bigSep Finset.univ (oIdle (F := F) c) = iprop((bigSep Finset.univ fun k : Fin 2 => semVal ((c : Thread nD τ), .dma (oS k)) 0)
      ∗ bigSep Finset.univ fun k : Fin 2 => iprop(∃ f, mpt (F := F) c (stV k) fullShare f)) := bigSep_sep' _ _ _
  rw [e]
  iintro ⟨Hs, Hf⟩
  isplitl [Hf]; · iapply h; iexact Hf
  iexact Hs
theorem com_two (X : Fin 2 → sProp 𝕄) : bigSep Finset.univ X = iprop(X 0 ∗ X 1) := BI.bigSep_fin_two X

/-- The three staged inputs. -/
abbrev staged : sProp 𝕄 := iprop(mpt c xM fullShare (I.x c) ∗ mpt c sxM fullShare (I.sx c) ∗ mpt c swM fullShare (I.sw c))

theorem body_in : iprop(Φin m c ∗ (∃ W, owes (c : Thread nD τ) (O₀ c) W) ∗ staged c (inp m))
    ⊢ iprop(∃ κ, (∃ r, prngReg c r) ∗ recs (inp m) κ ∗ bodyIn (inp m) c) := by
  have hw := w_in (F := F) c
  have ho := o_in (F := F) c
  unfold Φin Xk
  rw [scratch_eq, passed_eq]
  iintro ⟨⟨⟨Hwb, Hbuf, Hc0, Hc1, Hst⟩, Hp, ⟨Hw, Ho⟩, ⟨%κ, HR, Hb, Hop⟩, ⟨Hws, Hos⟩⟩, HO, ⟨Hx, Hsx, Hsw⟩⟩
  iexists κ
  isplitl [Hp]; · iexact Hp
  isplitl [HR]; · iexact HR
  unfold bodyIn
  isplitl [Hb]; · iexact Hb
  isplitl [Hop]; · iexact Hop
  isplitl [Hc0 Hc1]
  · rw [com_two]
    isplitl [Hc0] <;> iassumption
  isplitl [Hx Hsx Hsw Hw]
  · isplitl [Hx]; · iexact Hx
    isplitl [Hsx]; · iexact Hsx
    isplitl [Hsw]; · iexact Hsw
    rw [mpt_whole]; iexact Hw
  isplitl [Ho Hwb]
  · isplitl [Ho]
    · iexists (V₀ m c (Proc.devRef .tc main_v1)); rw [mpt_whole]; iexact Ho
    iexact Hwb
  isplitr [HO]
  · isplitl [Hbuf Hws]
    · iapply hw; isplitl [Hbuf] <;> iassumption
    iapply ho; isplitl [Hst] <;> iassumption
  iexact HO

theorem body_out : iprop((∃ r, prngReg c r) ∗ recs (inp m) κ ∗ bodyOut (inp m) c)
    ⊢ |={Set.univ}=> iprop(Φout m c ∗ (∃ W, owes (c : Thread nD τ) (0 : CellTallies nD τ sig Unit) W) ∗ staged c (inp m)) := by
  have hw := w_out (F := F) c (inp m)
  have ho := o_out (F := F) c (inp m)
  have hc := close_all c (inp m) κ
  have hmw : mpt c wM fullShare ((inp m).w c) ⊢ pt c main_arg1 (V₀ m c (Proc.devRef .tc main_arg1)) := Entails.of_eq (mpt_whole c main_arg1 fullShare _)
  have hmo : mpt c oM fullShare (outC (inp m) c) ⊢ pt c main_v1 (outC (inp m) c) := Entails.of_eq (mpt_whole c main_v1 fullShare _)
  unfold bodyOut Φout
  rw [scratch_eq, passed_eq, own_idle, V₁_v1, V₁_ne m c main_arg1 (by decide), com_two]
  iintro ⟨Hp, HR, Hb, Ha, ⟨Hc0, Hc1⟩, ⟨Hx, Hsx, Hsw, Hw⟩, ⟨Ho, Hwb⟩, ⟨Hws, Hos⟩, HO⟩
  imod hc $$ [HR Hb Ha] with ⟨Hbar, Hi⟩
  · isplitl [HR]; · iexact HR
    isplitl [Hb] <;> iassumption
  ihave Hws := hw $$ Hws
  icases Hws with ⟨Hbuf, Hws⟩
  ihave Hos := ho $$ Hos
  icases Hos with ⟨Hst, Hos⟩
  imodintro
  isplitr [HO Hx Hsx Hsw]
  · isplitl [Hwb Hbuf Hc0 Hc1 Hst]
    · isplitl [Hwb]; · iexact Hwb
      isplitl [Hbuf]; · iexact Hbuf
      isplitl [Hc0]; · iexact Hc0
      isplitl [Hc1] <;> iassumption
    isplitl [Hp]; · iexact Hp
    isplitl [Hw Ho]
    · isplitl [Hw]; · iapply hmw; iexact Hw
      iapply hmo; iexact Ho
    isplitr [Hbar]
    · isplitl [Hi]; · iexact Hi
      isplitl [Hws] <;> iassumption
    iexact Hbar
  isplitl [HO]; · iexact HO
  isplitl [Hx]; · iexact Hx
  isplitl [Hsx] <;> iassumption

/-- An update after the last line. -/
theorem wp_upd {p : Pg F PUnit} {P Q R : sProp 𝕄} (h : P ⊢ WP c p fun _ => Q) (hQ : Q ⊢ |={Set.univ}=> R) : P ⊢ WP c p fun _ => R := by
  rw [← bind_pure p]
  refine wp_seq (h.trans (wp_mono frame _ Set.univ fun _ => ?_))
  unfold WP; rw [wp_pure]; exact hQ

theorem body_kept : iprop((∃ r, prngReg c r) ∗ recs (inp m) κ ∗ bodyIn (inp m) c)
    ⊢ WP c bodyP fun _ => iprop(Φout m c ∗ (∃ W, owes (c : Thread nD τ) (0 : CellTallies nD τ sig Unit) W) ∗ staged c (inp m)) := by
  refine wp_upd c (Q := iprop((∃ r, prngReg c r) ∗ recs (inp m) κ ∗ bodyOut (inp m) c)) ?_ (body_out m c κ)
  have h := body_run (inp m) κ c
  iintro ⟨Hp, #HR, Hb⟩
  iapply (wp_wand_r frame _ Set.univ)
  isplitl [Hb]
  · iapply h
    isplitr; · iexact HR
    iexact Hb
  iintro %a Ho
  isplitl [Hp]; · iexact Hp
  isplitr; · iexact HR
  iexact Ho

/-- The kernel's body, at the one point of the call. -/
theorem body_obligation : BodyObligation (dat m c) (defs₀ (F := F)) 𝒱₀ () Set.univ := fun t => by
  obtain rfl := fin_N0 t
  have hx : (owns (c : Thread nD τ) xM fullShare ((inp m).x c) : sProp 𝕄) = mpt c xM fullShare ((inp m).x c) :=
    (owns_whole _ _ _ _).trans (mpt_whole c cc0_stg0_0 fullShare _).symm
  have hsx : (owns (c : Thread nD τ) sxM fullShare ((inp m).sx c) : sProp 𝕄) = mpt c sxM fullShare ((inp m).sx c) :=
    (owns_whole _ _ _ _).trans (mpt_whole c cc0_stg1_0 fullShare _).symm
  have hsw : (owns (c : Thread nD τ) swM fullShare ((inp m).sw c) : sProp 𝕄) = mpt c swM fullShare ((inp m).sw c) :=
    (owns_whole _ _ _ _).trans (mpt_whole c cc0_stg2_0 fullShare _).symm
  have hb : (defs₀ (F := F)) .tc cfg0.body (cfg0.bodyArgs t0_0 (cfg0.slots t0_0)) = bodyAt0 t0_0 := rfl
  rw [bigSep_W0, bigSep_W0, dat_first, dat_last, hb, body_eq]
  have key : iprop(Φin m c ∗ (∃ W, owes (c : Thread nD τ) (O₀ c) W) ∗ staged c (inp m))
      ⊢ WP c bodyP fun _ => iprop(Φout m c ∗ (∃ W, owes (c : Thread nD τ) (0 : CellTallies nD τ sig Unit) W) ∗ staged c (inp m)) := by
    refine (body_in m c).trans ?_
    iintro ⟨%κ, Hp, #HR, Hb⟩
    iapply (body_kept m c κ)
    isplitl [Hp]; · iexact Hp
    isplitr; · iexact HR
    iexact Hb
  have h1 := owes_elim m c t0_0.castSucc (O₀ c) (owed_first m c)
  have h2 := owes_intro m c t0_0.succ 0 (owed_last m c)
  have g0 : iprop(∃ d, owns (c : Thread nD τ) ((cfg0.win 0).stage (cfg0.slots t0_0 0)) fullShare ((dat m c).before 0 t0_0 d)) ⊢ mpt c xM fullShare ((inp m).x c) := by
    iintro ⟨%d, H⟩; rw [before_x]; iapply (Entails.of_eq hx); iexact H
  have g1 : iprop(∃ d, owns (c : Thread nD τ) ((cfg0.win 1).stage (cfg0.slots t0_0 1)) fullShare ((dat m c).before 1 t0_0 d)) ⊢ mpt c sxM fullShare ((inp m).sx c) := by
    iintro ⟨%d, H⟩; rw [before_sx]; iapply (Entails.of_eq hsx); iexact H
  have g2 : iprop(∃ d, owns (c : Thread nD τ) ((cfg0.win 2).stage (cfg0.slots t0_0 2)) fullShare ((dat m c).before 2 t0_0 d)) ⊢ mpt c swM fullShare ((inp m).sw c) := by
    iintro ⟨%d, H⟩; rw [before_sw]; iapply (Entails.of_eq hsw); iexact H
  clear hb; generalize bodyP (F := F) = p at key ⊢
  refine BI.Entails.trans ?_ (key.trans (wp_mono frame _ Set.univ fun _ => ?_))
  · exact BI.sep_mono (BI.Entails.refl _) (BI.sep_mono h1 (BI.sep_mono g0 (BI.sep_mono g1 g2)))
  · exact BI.sep_mono (BI.Entails.refl _) (BI.sep_mono h2 (BI.sep_mono (Entails.of_eq hx.symm)
      (BI.sep_mono (Entails.of_eq hsx.symm) (Entails.of_eq hsw.symm))))

end Cert.KernelIdeal.Proof

end
-- ==== Proof.Launch.lean ====
/- The launch: what the devices owe adds up to what they are credited, and every token is dealt to the device that uses it. -/
module

public import proofs.«01_k».proof.Proof.Region

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds Idealize.ShloMosaic.Transfers
open Cert.KernelIdeal.Gen

variable {F : FTy → Type} [FloatOps F]

local notation "𝕄" => MM F

/-! ## The credits -/

/-- A cell of a transfer names its device and its transfer. -/
theorem recv_inj {c c' : Dev nD} {p p' : Hop} (h : recvCell c p.1 p.2.1 p.2.2 = recvCell c' p'.1 p'.2.1 p'.2.2) : c = c' ∧ p = p' := by
  have e : (c, ((1 : Fin 2), p)) = (c', ((1 : Fin 2), p')) := hopEmb.injective h
  exact ⟨congrArg Prod.fst e, congrArg (fun q : Dev nD × (Fin 2 × Hop) => q.2.2) e⟩

theorem tgt_eq {c b : Dev nD} {d : Fin 2} : tgt b d = c ↔ b = frm c d :=
  ⟨fun h => by rw [← h, frm_tgt], fun h => by rw [h, tgt_frm]⟩

/-- A device owes one transfer's arrival on `c` exactly if it is the neighbour that sends it. -/
theorem owed_recv (b c : Dev nD) (p : Hop) : O₀ b (recvCell c p.1 p.2.1 p.2.2) () = if b = frm c p.1 then N else 0 := by
  have hbar (u : Dev nD) : tallyAt (barCell u) () 1 (recvCell c p.1 p.2.1 p.2.2) = (0 : Unit →₀ ℕ) :=
    tallyAt_ne_cell (fun h : recvCell c p.1 p.2.1 p.2.2 = barCell u => recv_ne_bar _ _ _ (congrArg Prod.snd h)) _ _
  have hdue (p' : Hop) : due b p' (recvCell c p.1 p.2.1 p.2.2) () = if p' = p then (if b = frm c p.1 then N else 0) else 0 := by
    rw [tallyAt_apply]
    by_cases hp : p' = p
    · subst hp
      by_cases hb : b = frm c p'.1
      · rw [if_pos rfl, if_pos hb, if_pos ⟨by rw [tgt_eq.mpr hb], rfl⟩]
      · rw [if_pos rfl, if_neg hb, if_neg fun h => hb (tgt_eq.mp (recv_inj h.1).1.symm)]
    · rw [if_neg hp, if_neg fun h => hp (recv_inj h.1).2.symm]
  unfold O₀ dues
  rw [Pi.add_apply, Pi.add_apply, hbar, hbar, add_zero, add_zero, Finset.sum_apply, Finsupp.finset_sum_apply,
    Finset.sum_congr rfl fun p' _ => hdue p', Finset.sum_ite_eq', if_pos (show p ∈ hops 0 from Finset.mem_filter.mpr ⟨Finset.mem_univ _, Nat.zero_le _⟩)]

/-- A device owes `c`'s barrier a unit for each direction it has `c` as its neighbour in. -/
theorem owed_bar (b c : Dev nD) : O₀ b (barCell c) () = (if b = frm c 0 then 1 else 0) + if b = frm c 1 then 1 else 0 := by
  have hdues : dues b (hops 0) (barCell c) () = 0 := by
    by_contra h
    obtain ⟨p, -, e⟩ := dues_pos (Nat.pos_of_ne_zero h)
    exact recv_ne_bar _ _ _ (congrArg Prod.snd e).symm
  have hbar (d : Fin 2) : tallyAt (barCell (tgt b d)) () 1 (barCell c) () = if b = frm c d then 1 else 0 := by
    rw [tallyAt_apply]
    by_cases hb : b = frm c d
    · rw [if_pos hb, if_pos ⟨by rw [tgt_eq.mpr hb], rfl⟩]
    · rw [if_neg hb, if_neg fun h => hb (tgt_eq.mp (barEmb.injective h.1).symm)]
  unfold O₀
  rw [Pi.add_apply, Pi.add_apply, Finsupp.add_apply, Finsupp.add_apply, hdues, hbar, hbar, zero_add]

theorem launch_recv (c : Dev nD) (p : Hop) :
    tallyOn (recvCell c p.1 p.2.1 p.2.2) (launchCredit (Pipeline.owing O₀) 0 (recvCell c p.1 p.2.1 p.2.2))
      = (tallyAt (recvCell c p.1 p.2.1 p.2.2) () N : CellTallies nD τ sig Unit) := by
  unfold tallyAt; refine congrArg _ (Finsupp.ext fun u => ?_); cases u
  rw [Pipeline.launchCredit_owing, Finsupp.single_eq_same, Finset.sum_congr rfl fun b _ => owed_recv b c p, Finset.sum_ite_eq',
    if_pos (Finset.mem_univ _)]
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun b _ => owed_bar b c, Finset.sum_add_distrib,
    Finset.sum_ite_eq', Finset.sum_ite_eq', if_pos (Finset.mem_univ _), if_pos (Finset.mem_univ _)]

def recvEmb : Hop ↪ SemLoc sig := ⟨fun p => hopSem (1, p), fun _ _ h => congrArg Prod.snd (hopSem_inj h)⟩

/-- A device's credit at launch: two units on its barrier, and every arrival. -/
theorem creds (c : Dev nD) : (Pipeline.launchCred O₀ c : sProp 𝕄)
    ⊢ iprop(cred (tallyAt (barCell c) () 2) ∗ all3 fun d h s => cred (tallyAt (recvCell c d h s) () N)) := by
  have hsub : (Finset.univ.map recvEmb : Finset (SemLoc sig)) ⊆ Finset.univ.erase (SemLoc.reg barS) := fun sm h => by
    obtain ⟨p, -, rfl⟩ := Finset.mem_map.mp h
    exact Finset.mem_erase.mpr ⟨hopSem_ne_bar (1, p), Finset.mem_univ _⟩
  unfold Pipeline.launchCred
  rw [bigSep_univ_at _ (SemLoc.reg barS), launch_bar, ← all3_flat]
  refine sep_mono_right ((BI.bigSep_subset hsub).trans ?_)
  rw [BI.bigSep_map]
  exact Entails.of_eq (bigSep_congr fun p _ => congrArg cred (launch_recv c p))

/-! ## The tokens -/

/-- A device's duties: two units on its barrier, and one on either semaphore of every transfer. -/
abbrev Duty : Type := Fin 2 ⊕ (Fin 2 × Hop)
abbrev dutySem : Duty → SemLoc sig × Fin 2
  | .inl u => (.reg barS, u)
  | .inr q => (hopSem q, 0)
theorem dutySem_inj : Function.Injective dutySem := fun
  | .inl u, .inl v, h => congrArg Sum.inl (congrArg Prod.snd h)
  | .inl u, .inr q, h => absurd (congrArg Prod.fst h).symm (hopSem_ne_bar q)
  | .inr q, .inl u, h => absurd (congrArg Prod.fst h) (hopSem_ne_bar q)
  | .inr q, .inr p, h => congrArg Sum.inr (hopSem_inj (congrArg Prod.fst h))
def dutyEmb : Dev nD × Duty ↪ GSem nD τ sig × ℕ × Fin 2 :=
  ⟨fun x => (((x.1 : Thread nD τ), (dutySem x.2).1), 0, (dutySem x.2).2), fun _ _ h =>
    Prod.ext (congrArg (fun t : GSem nD τ sig × ℕ × Fin 2 => t.1.1.1) h)
      (dutySem_inj (Prod.ext (congrArg (fun t : GSem nD τ sig × ℕ × Fin 2 => t.1.2) h) (congrArg (fun t : GSem nD τ sig × ℕ × Fin 2 => t.2.2) h)))⟩
def duties : Finset (GSem nD τ sig × ℕ × Fin 2) := Finset.univ.map dutyEmb

theorem cells_disjoint : Disjoint (barCells : Finset (GSem nD τ sig)) hopCells := by
  rw [Finset.disjoint_left]
  rintro g h₁ h₂
  obtain ⟨c, -, rfl⟩ := Finset.mem_map.mp h₁
  obtain ⟨q, -, h⟩ := Finset.mem_map.mp h₂
  exact hopSem_ne_bar q.2 (congrArg Prod.snd h)

/-- The ring, one step along a direction. -/
def ring (d : Fin 2) : Dev nD ≃ Dev nD := ⟨fun c => tgt c d, fun c => frm c d, fun c => frm_tgt c d, fun c => tgt_frm c d⟩

theorem all3_dev (X : Dev nD → Fin 2 → Fin 7 → Fin 2 → sProp 𝕄) :
    (bigSep Finset.univ fun c => all3 (X c)) = all3 fun d h s => bigSep Finset.univ fun c => X c d h s := by
  rw [← all3_flat, ← BI.bigSep_univ_comm]
  exact bigSep_congr fun c _ => (all3_flat (X c)).symm

/-- The tokens of a device's own cells. -/
abbrev ownToks (c : Dev nD) : sProp 𝕄 :=
  iprop((dutyTok ER (barCell c) 0 0 ∗ dutyTok ER (barCell c) 0 1)
    ∗ all3 (fun d h s => dutyTok ER (sendCell c d h s) 0 0) ∗ all3 fun d h s => dutyTok ER (recvCell c d h s) 0 0)
/-- The tokens of what a device pays: its neighbours' barriers, its departures, its neighbours' arrivals. -/
abbrev payToks (c : Dev nD) : sProp 𝕄 :=
  iprop((dutyTok ER (barCell (frm c 0)) 0 0 ∗ dutyTok ER (barCell (frm c 1)) 0 1)
    ∗ all3 (fun d h s => dutyTok ER (sendCell c d h s) 0 0) ∗ all3 fun d h s => dutyTok ER (recvCell (tgt c d) d h s) 0 0)

theorem toks_own : (bigSep duties fun x => (dutyTok ER x.1 x.2.1 x.2.2 : sProp 𝕄)) = bigSep Finset.univ fun c : Dev nD => ownToks c := by
  unfold duties
  rw [BI.bigSep_map, bigSep_univ_prod]
  refine bigSep_congr fun c _ => ?_
  rw [BI.bigSep_univ_sum, BI.bigSep_fin_two, ends_flat, all3_sep]
  rfl

theorem toks_around : (bigSep Finset.univ fun c : Dev nD => (ownToks c : sProp 𝕄)) = bigSep Finset.univ fun c : Dev nD => payToks c := by
  have hb (d u : Fin 2) : (bigSep Finset.univ fun c : Dev nD => (dutyTok ER (barCell c) 0 u : sProp 𝕄)) = bigSep Finset.univ fun c : Dev nD => dutyTok ER (barCell (frm c d)) 0 u :=
    BI.bigSep_univ_equiv (ring d.rev) _
  have hr : (bigSep Finset.univ fun c : Dev nD => all3 fun d h s => (dutyTok ER (recvCell c d h s) 0 0 : sProp 𝕄))
      = bigSep Finset.univ fun c : Dev nD => all3 fun d h s => dutyTok ER (recvCell (tgt c d) d h s) 0 0 := by
    rw [all3_dev, all3_dev]
    exact congrArg all3 (funext fun d => funext fun h => funext fun s => BI.bigSep_univ_equiv (ring d) _)
  unfold ownToks payToks
  rw [bigSep_sep', bigSep_sep', bigSep_sep', hb 0 0, hb 1 1, hr, bigSep_sep', bigSep_sep', bigSep_sep']

/-! ## The deal -/

/-- A resource as one device's share, nothing on the others. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => show onDev c₀ X c = BI.emp from if_neg (Finset.ne_of_mem_erase hc), BI.bigSep_emp_const, onDev, if_pos rfl]
  exact BI.equiv_iff.mp sep_emp

abbrev seed : UB := launchOf barCells hopCells duties
def G : Dev nD → sProp 𝕄 := onDev 0 (BI.own (ER seed))

/-- What the deal gives a device beside the records. -/
def linear (c : Dev nD) : sProp 𝕄 :=
  iprop(atPos ER (barCell c) 0 ∅ 0 ∗ (all3 fun d h s => iprop(openTok ER (sendCell c d h s) ∗ openTok ER (recvCell c d h s))) ∗ payToks c)
/-- Its credits. -/
def credits (c : Dev nD) : sProp 𝕄 := iprop(cred (tallyAt (barCell c) () 2) ∗ all3 fun d h s => cred (tallyAt (recvCell c d h s) () N))

theorem Tk_intro (I : Inp F) (κ : GSem nD τ sig → ℕ) (c : Dev nD) : iprop(recs I κ ∗ linear c ∗ credits c) ⊢ Tk c I := by
  have h : iprop((all3 fun d h s => iprop(openTok ER (sendCell c d h s) ∗ openTok ER (recvCell c d h s)))
      ∗ (all3 (fun d h s => dutyTok ER (sendCell c d h s) 0 0) ∗ all3 fun d h s => dutyTok ER (recvCell (tgt c d) d h s) 0 0)
      ∗ all3 fun d h s => cred (tallyAt (recvCell c d h s) () N)) ⊢ (all3 (dealt c) : sProp 𝕄) := by
    rw [← all3_sep, ← all3_sep, ← all3_sep]
  unfold linear credits payToks Tk
  iintro ⟨#HR, ⟨Ha, Ho, ⟨Hb0, Hb1⟩, HtS, HtV⟩, Hc, Hcs⟩
  iexists κ
  isplitr; · iexact HR
  isplitl [Ha Hb0 Hb1 Hc]
  · isplitl [Hc]; · iexact Hc
    isplitl [Ha]; · iexact Ha
    isplitl [Hb0] <;> iassumption
  iapply h
  isplitl [Ho]; · iexact Ho
  isplitl [HtS HtV]
  · isplitl [HtS] <;> iassumption
  iexact Hcs

variable (m : (ℓ : Loc nD τ sig) → Buf (Elt F) ℓ) (ρ : Dev nD → PrngReg)

theorem unscopedBufs_held (c : Dev nD) (W : Valuation τ sig (Elt F)) :
    (unscopedBufs c (fun b => W b) : sProp 𝕄) = StableHlo.held (c : Thread nD τ) (Pipeline.ucRefs τ sig) W := by
  unfold unscopedBufs StableHlo.held Pipeline.ucRefs StableHlo.tcRefs
  rw [Finset.filter_map, BI.bigSep_map]
  rfl

theorem unscoped_bar : (Finset.univ.filter fun sm : SemLoc sig => ¬ sm.isScoped .tc) = {SemLoc.reg barS} := by decide +kernel
theorem unscopedSems0_eq (c : Dev nD) : (unscopedSems0 c : sProp 𝕄) = semVal (barCell c) 0 := by
  unfold unscopedSems0
  rw [unscoped_bar, BI.bigSep_singleton]

/-- What a device has when @main starts. -/
def T₀ (c : Dev nD) : sProp 𝕄 :=
  iprop(StableHlo.held (c : Thread nD τ) (Pipeline.ucRefs τ sig) (V₀ m c) ∗ (∃ r, prngReg c r) ∗ Tk c (inp m) ∗ ∃ W, owes (c : Thread nD τ) (O₀ c) W)

/-- The part of it that needs no deal. -/
def bundle (c : Dev nD) : sProp 𝕄 :=
  iprop(StableHlo.held (c : Thread nD τ) (Pipeline.ucRefs τ sig) (V₀ m c) ∗ (∃ r, prngReg c r) ∗ credits c ∗ ∃ W, owes (c : Thread nD τ) (O₀ c) W)

theorem T₀_intro (κ : GSem nD τ sig → ℕ) (c : Dev nD) : iprop(recs (inp m) κ ∗ linear c ∗ bundle m c) ⊢ T₀ m c := by
  unfold bundle T₀
  iintro ⟨#HR, Hl, Hh, Hp, Hc, HO⟩
  isplitl [Hh]; · iexact Hh
  isplitl [Hp]; · iexact Hp
  isplitl [Hl Hc]
  · iapply (Tk_intro (inp m) κ c)
    isplitr; · iexact HR
    isplitl [Hl] <;> iassumption
  iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    have hc := creds (F := F) c
    rw [show unscopedBufs c (fun b => m ((c : Thread nD τ).loc b)) = StableHlo.held (c : Thread nD τ) (Pipeline.ucRefs τ sig) (V₀ m c) from unscopedBufs_held c (V₀ m c),
      unscopedSems0_eq]
    unfold bundle credits
    iintro ⟨Hh, Hus, HO, Hcr, Hp, HG⟩
    isplitl [Hh HO Hcr Hp]
    · isplitl [Hh]; · iexact Hh
      isplitl [Hp]; · iexists (ρ c); iexact Hp
      isplitl [Hcr]; · iapply hc; iexact Hcr
      iexists ∅; iexact HO
    isplitl [Hus] <;> iassumption
  have hcores : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ iprop(bigSep Finset.univ (bundle m) ∗ bigSep barCells (fun g => (semVal g 0 : sProp 𝕄)) ∗ BI.own (ER seed)) := by
    refine (bigSep_mono fun c _ => hcore c).trans ?_
    rw [bigSep_sep', bigSep_sep']
    refine BI.sep_mono (BI.Entails.refl _) (BI.sep_mono (Entails.of_eq (BI.bigSep_map (s := Finset.univ) barEmb (Φ := fun g : GSem nD τ sig => (semVal g 0 : sProp 𝕄))).symm) (Entails.of_eq (onDev_all 0 _)))
  have hlin : iprop(bigSep barCells (fun g => (atPos ER g 0 ∅ 0 : sProp 𝕄)) ∗ bigSep hopCells (fun g => (openTok ER g : sProp 𝕄))
      ∗ bigSep duties fun x => (dutyTok ER x.1 x.2.1 x.2.2 : sProp 𝕄)) ⊢ bigSep Finset.univ fun c : Dev nD => linear c := by
    unfold linear
    rw [bigSep_sep', bigSep_sep', toks_own, toks_around, BI.bigSep_map, BI.bigSep_map, bigSep_univ_prod]
    refine BI.sep_mono (BI.Entails.refl _) (BI.sep_mono (Entails.of_eq (bigSep_congr fun c _ => ?_)) (BI.Entails.refl _))
    exact ends_flat fun q => openTok ER ((c : Thread nD τ), hopSem q)
  iintro ⟨H, #Hlev⟩
  ihave H' := hcores $$ H
  icases H' with ⟨HB, Hv, Hu⟩
  imod (Rounds.fund_launch ER (rd (inp m)) cells_disjoint (fun g _ h => h) duties) $$ [Hv Hu] with ⟨%κ, -, #Hinv, #Hr, Hat, Hopen, Htok⟩
  · isplitl [Hv]
    · iexact Hv
    · iexact Hu
  imodintro
  iapply (bigSep_with_persistent (R := recs (inp m) κ) (Φ := fun c => iprop(linear c ∗ bundle m c)) fun c _ => T₀_intro m κ c)
  isplitr
  · unfold recs
    isplitr; · iexact Hinv
    isplitr; · iexact Hr
    iexact Hlev
  iapply (Entails.of_eq (bigSep_sep' Finset.univ (fun c : Dev nD => (linear c : sProp 𝕄)) (bundle m)).symm)
  isplitr [HB]
  · iapply hlin
    isplitl [Hat]; · iexact Hat
    isplitl [Hopen] <;> iassumption
  · iexact HB

end Cert.KernelIdeal.Proof

end
-- ==== Proof.Run.lean ====
/- The run of @main: the call, the conversion of its result, and what the memory holds at the end. -/
module

public import proofs.«01_k».proof.Proof.Launch

@[expose] public section

noncomputable section

namespace Cert.KernelIdeal.Proof

open Idealize.ShloMosaic Idealize.ShloMosaic.TcCoe
open Idealize.SL Idealize.SL.RA Idealize.SL.Sem Idealize.SL.BI
open scoped Idealize.SL.BI
open Idealize.SL.BI.BIBase Idealize.SL.BI.Laws Idealize.SL.ProofMode
open Idealize.ShloMosaic.Rounds Idealize.ShloMosaic.Transfers
open Cert.KernelIdeal.Gen

variable {F : FTy → Type} [FloatOps F]

local notation "𝕄" => MM F

open Idealize.ShloMosaic.Pipeline (Dat BodyObligation)

variable (m : (ℓ : Loc nD τ sig) → Buf (Elt F) ℓ) (ρ : Dev nD → PrngReg)

/-! ## The call as a segment -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem cells_inj : Function.Injective (Pipeline.cellOf (nD := nD) (τ := τ) (Pipeline.pin (pcfgs (F := F)) adm)) := Gen.cellOf_inj

theorem kit : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

theorem owed_zero (c : Dev nD) : (dat m c).owed 0 = O₀ c := owed_first m c
theorem owed_end (c : Dev nD) : (dat m c).owed (Fin.last _) = 0 := owed_last m c

/-- Whatever a device owes at a point lies above the staging's level. -/
theorem cut_at (c : Dev nD) (t : Fin (cfg0.N + 1)) (g : GSem nD τ sig) (u : Unit) (h : 0 < (dat m c).owed t g u) : u ∈ L g ∧ (0 : ℕ) < lv g u := by
  dsimp only [dat] at h
  split at h
  · exact cut c g u h
  · exact absurd h (Nat.lt_irrefl 0)

/-- No staging semaphore is a transfer's. -/
theorem staging_role : ∀ (w : Fin 3) (s : Fin (spec0 w).nbuf), role (.dma ((spec0 w).sem s)) = none := fun w s => by
  unfold role
  exact dif_neg fun ⟨q, h⟩ => absurd h (by revert w s q; decide +kernel)

/-- The call changes no window's array. -/
theorem arr_kept (c : Dev nD) (w : Fin 3) (n : ℕ) : (dat m c).arrAt w n = V₀ m c (Proc.devRef .tc (Pipeline.arrRef spec0 w)) :=
  match w with
  | 0 => (dat m c).arrAt_in 0 rfl n
  | 1 => (dat m c).arrAt_in 1 rfl n
  | 2 => (dat m c).arrAt_in 2 rfl n

theorem share_full (c : Dev nD) : ∀ w : Fin 3, (dat m c).share w = fullShare
  | 0 => rfl
  | 1 => rfl
  | 2 => rfl

theorem arr_ne : ∀ w : Fin 3, Pipeline.arrRef spec0 w ≠ main_v1 := by decide

theorem passed_sub : passed ⊆ others := by decide
theorem rest_kept (c : Dev nD) : ∀ b ∈ others \ passed, V₁ m c b = V₀ m c b := fun b hb => by
  have e : others \ passed = {Proc.devRef .tc main_v2} := by decide
  rw [e, Finset.mem_singleton] at hb
  subst hb; exact V₁_ne m c main_v2 (by decide)

set_option backward.isDefEq.respectTransparency.types false in
def reg0 : ℝ𝕊 0 :=
  Pipeline.RegionSeg.ofTalk (pcfgs (F := F)) adm (pdats m) () defs₀ 𝒱₀ L lv 0 osem own_facts
    passed others passed_sub kit rfl (fun c => (body_obligation m c).loose)
    (fun _ => 0) O₀ (fun c => (owed_zero m c).trans (zero_add _).symm) (owed_end m) (fun _ => rfl) (share_full m)
    (V₀ m) (V₁ m) (rest_kept m)
    (fun c => Tk c (inp m)) (fun c => semVal (barCell c) 0) (fun c => Xk c (inp m)) (fun c => semVal (barCell c) 0)
    (fun c => open_all c (inp m)) (fun c => Entails.of_eq (dat_first m c).symm) (fun c => Entails.of_eq (dat_last m c))
    (fun c => by iintro H; imodintro; iexact H)
    (fun _ => 0)
    ⟨fun c w s => mem_L c _ _, fun c w s => le_of_eq (lv_dma c _ (staging_role w s) _), fun c t g i h => cut_at m c t g i h⟩
    (fun _ => iprop(emp))
    (fun c w => arr_kept m c w 0) (fun c w => (arr_kept m c w _).trans (V₁_ne m c _ (arr_ne w)).symm)

/-! ## Its two sides -/

theorem split_bufs (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) others W) := by
  rw [StableHlo.held_sub_split (c : Thread nD τ) (Pipeline.arrRefs_sub_ucRefs spec0 winFacts0.arr_unscoped) W,
    show Pipeline.ucRefs τ sig \ Pipeline.arrRefs (τ := τ) spec0 = others by decide +kernel]

theorem reg0_pre (c : Dev nD) : T₀ m c ⊢ (reg0 m).pre c := by
  show _ ⊢ iprop(StableHlo.held (c.tc : Thread nD τ) (Pipeline.arrRefs (τ := τ) spec0) (V₀ m c) ∗ (∃ r, prngReg c r)
    ∗ (StableHlo.held (c.tc : Thread nD τ) others (V₀ m c) ∗ emp) ∗ Tk c (inp m) ∗ ∃ Wd, owes (c : Thread nD τ) (0 + O₀ c) Wd)
  unfold T₀
  rw [split_bufs, zero_add]
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

/-- What is left beside the buffers when the call is over. -/
abbrev after (c : Dev nD) : sProp 𝕄 := iprop(semVal (barCell c) 0 ∗ ∃ W, owes (c : Thread nD τ) (0 : CellTallies nD τ sig Unit) W)

theorem reg0_post (c : Dev nD) : (reg0 m).post c ⊢ iprop(StableHlo.held (c : Thread nD τ) (Pipeline.ucRefs τ sig) (V₁ m c) ∗ after c) := by
  show iprop(StableHlo.held (c.tc : Thread nD τ) (Pipeline.arrRefs (τ := τ) spec0) (V₁ m c) ∗ (∃ r, prngReg c r)
    ∗ (StableHlo.held (c.tc : Thread nD τ) others (V₁ m c) ∗ emp) ∗ semVal (barCell c) 0 ∗ ∃ Wd, owes (c : Thread nD τ) (0 : CellTallies nD τ sig Unit) Wd) ⊢ _
  rw [split_bufs]
  iintro ⟨Ha, -, ⟨Ho, -⟩, Hb, HO⟩
  isplitl [Ha Ho]
  · isplitl [Ha] <;> iassumption
  isplitl [Hb] <;> iassumption

/-- The conversion of the result. -/
def seg1 : ℍ := Pipeline.HostSeg.ofOps _ _ _ _ _ (Pipeline.ucRefs τ sig) hostOps1
  (fun op h => Pipeline.sub_ucRefs op ((List.forall_iff_forall_mem.mp hostOps1_sub) op h))
  (fun op h => by simp only [List.mem_singleton] at h; subst h; rfl) (V₁ m) after

def segs : List (Pipeline.Seg (pcfgs (F := F)) adm (pdats m) () defs₀ 𝒱₀ L lv) := [.region (reg0 m), .host (seg1 m)]

/-! ## The end -/

theorem V₂_v2 (c : Dev nD) : V₂ m c (Proc.devRef .tc main_v2) = extf .f32 (outC (inp m) c) bitsLt_bf16_f32 := by
  unfold V₂ hostOps1
  rw [StableHlo.after_cons, StableHlo.after_nil, StableHlo.unary_result]
  exact congrArg (extf .f32 · bitsLt_bf16_f32) (V₁_v1 m c)
theorem V₂_arg (c : Dev nD) (r : Ref sig .tc) (h1 : r ≠ main_v1) (h2 : r ≠ main_v2) : V₂ m c (Proc.devRef .tc r) = m ((c : Thread nD τ).loc r) := by
  unfold V₂ hostOps1
  rw [StableHlo.after_cons, StableHlo.after_nil, StableHlo.unary_result_ne _ _ _ _ _ _ h2, V₁_ne m c r h1]
  rfl

theorem bufs_eq (c : Dev nD) (W : Valuation τ sig (Elt F)) : (StableHlo.held (c : Thread nD τ) (Pipeline.ucRefs τ sig) W : sProp 𝕄)
    = iprop(pt c main_arg0 (W main_arg0) ∗ pt c main_arg1 (W main_arg1) ∗ pt c main_arg2 (W main_arg2) ∗ pt c main_arg3 (W main_arg3)
      ∗ pt c main_v1 (W main_v1) ∗ pt c main_v2 (W main_v2)) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide +kernel)]
  rfl

def Tₙ (c : Dev nD) : sProp 𝕄 := iprop(StableHlo.held (c : Thread nD τ) (Pipeline.ucRefs τ sig) (V₂ m c) ∗ semVal (barCell c) 0)

def u₀ : UU :=
  (initOf (Pipeline.cells (Pipeline.pin (pcfgs (F := F)) adm) cells_inj) (Pipeline.launchToks (Pipeline.pin (pcfgs (F := F)) adm) cells_inj),
    (seed, 1))

theorem unscoped_only : ∀ sm : SemLoc sig, sm.isScoped .tc = false → sm = .reg barS := fun sm h => by
  have : sm ∈ (Finset.univ.filter fun sm : SemLoc sig => ¬ sm.isScoped .tc) := Finset.mem_filter.mpr ⟨Finset.mem_univ _, by rw [h]; decide⟩
  rw [unscoped_bar] at this
  exact Finset.mem_singleton.mp this

/-- Every execution of @main ends; on each device the arguments are as they were, the result is the converted `outC`,
    and every semaphore is at zero. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v2) = extf .f32 (outC (inp m) c) bitsLt_bf16_f32)
  ∧ r.2.sem = fun _ => 0

/-- What is read off a device's last memory. -/
def Reads (c : Dev nD) (s : MemSt nD τ sig (Elt F)) : Prop :=
  (s.mem ((c : Thread nD τ).loc main_arg0) = V₂ m c main_arg0 ∧ s.mem ((c : Thread nD τ).loc main_arg1) = V₂ m c main_arg1
    ∧ s.mem ((c : Thread nD τ).loc main_arg2) = V₂ m c main_arg2 ∧ s.mem ((c : Thread nD τ).loc main_arg3) = V₂ m c main_arg3
    ∧ s.mem ((c : Thread nD τ).loc main_v2) = V₂ m c main_v2) ∧ s.sem (barCell c) = 0

theorem reads (c : Dev nD) (s' : Phys nD τ sig (Elt F)) : iprop(Tₙ m c ∗ SI s') ⊢ (|={Set.univ}=> iprop(⌜Reads m c s'.mem⌝ ∗ SI s') : sProp 𝕄) := by
  unfold Tₙ
  rw [bufs_eq]
  iintro ⟨⟨⟨H0, H1, H2, H3, -, Hv⟩, Hb⟩, HSI⟩
  icombine HSI H0 gives %h0
  icombine HSI H1 gives %h1
  icombine HSI H2 gives %h2
  icombine HSI H3 gives %h3
  icombine HSI Hv gives %hv
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ hv⟩, by simpa using hb⟩
  iexact HSI

set_option backward.isDefEq.respectTransparency.types false in
/-- The run, over any float values. -/
theorem run_main : θ_run defs (onTc (τ := τ) (main (F := F))) ⟨m, fun _ => 0, ρ⟩ (Ends m) :=
  Pipeline.θ_run_regions_kit_sems (pcfgs (F := F)) adm (pdats m) () cells_inj EP defs₀ 𝒱₀ L lv m ρ main (segs m)
    (fun c Q => by rw [main_segs adm (pdats m) () 𝒱₀ L lv (seg1 m) (reg0 m) rfl c]; exact BI.Entails.refl _)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      rw [onDev_all]
      iintro Hu
      ihave H := (ownU_pair _ _) $$ Hu
      icases H with ⟨HP, HX⟩
      ihave H := (own_pair_emb embR seed (1 : Counters)) $$ HX
      icases H with ⟨HR, -⟩
      imodintro
      isplitl [HP]; · iexact HP
      iexact HR)
    (T₀ := T₀ m) (Tₙ := Tₙ m)
    (hch := by
      refine ⟨reg0_pre m, reg0_post m, fun c => ?_⟩
      show iprop(StableHlo.held (c : Thread nD τ) (Pipeline.ucRefs τ sig) (V₂ m c) ∗ after c)
        ⊢ iprop(Tₙ m c ∗ ∃ W, owes (c : Thread nD τ) (0 : CellTallies nD τ sig Unit) W)
      unfold Tₙ
      iintro ⟨Hh, Hb, HO⟩
      isplitr [HO]
      · isplitl [Hh] <;> iassumption
      · iexact HO)
    (hinit := init m ρ) (QY := Reads m) (hfin := reads m)
    (hQ := fun s h hs => ⟨fun c => by
        obtain ⟨⟨h0, h1, h2, h3, hv⟩, -⟩ := h c
        exact ⟨h0.trans (V₂_arg m c main_arg0 (by decide) (by decide)), h1.trans (V₂_arg m c main_arg1 (by decide) (by decide)),
          h2.trans (V₂_arg m c main_arg2 (by decide) (by decide)), h3.trans (V₂_arg m c main_arg3 (by decide) (by decide)), hv.trans (V₂_v2 m c)⟩,
      sem_eq_zero hs fun c sm hsm => by
        obtain rfl := unscoped_only sm hsm
        exact (h c).2⟩)

end Cert.KernelIdeal.Proof

end
-- ==== Proof.Value.lean ====
/- The kernel's result at exact arithmetic: each device's array is its block of the reference's result. -/
module

public import proofs.«01_k».proof.Proof.Run
public import proofs.«01_k».proof.Proof.Gen.ReferenceIdeal.Value
public import Idealize.ShloMosaic.Lib.MatmulPlain
public import Idealize.ShloMosaic.Lib.Layout
public import Idealize.ShloMosaic.Lib.Pipeline.Value

@[expose] public section

noncomputable section

namespace Cert.KernelIdeal.Proof

open Idealize.ShloMosaic Idealize.ShloMosaic.TcCoe
open Cert.KernelIdeal.Gen

/-- `y / (1 + exp (0 - clip y))` of `y = a * s`, at exact arithmetic. -/
def act (s a : Ideal .f32) : Ideal .f32 :=
  FloatOps.divf (FloatOps.mulf a s) (FloatOps.addf (Scalar.ofBits .f32 0x3F800000#32) (FloatOps.exp (FloatOps.subf (Scalar.ofBits .f32 0x00000000#32)
    (FloatOps.minimumf (Scalar.ofBits .f32 0x42700000#32) (FloatOps.maximumf (Scalar.ofBits .f32 0xC2700000#32) (FloatOps.mulf a s))))))

/-- A product into zeros at an index: the sum of the row times the column. -/
theorem matmul_zero {M K N : ℕ} {φ₁ φ₂ : FTy} (x : FVec Ideal ⟨2, ![M, K]⟩ φ₁) (w : FVec Ideal ⟨2, ![K, N]⟩ φ₂) (r : Fin M) (l : Fin N) :
    FloatOps.matmul (DotDims.plain M K N) none x w (constant ⟨2, ![M, N]⟩ .f32 0x00000000#32) (ix2 r l) = (∑ k : Fin K, x (ix2 r k) * w (ix2 k l) : EReal) := by
  have hz : (constant ⟨2, ![M, N]⟩ .f32 0x00000000#32 : FVec Ideal ⟨2, ![M, N]⟩ .f32) (ValueIdx.ix2 r l) = (0 : EReal) := Ideal.ofBits_zero_f32
  have h := Ideal.matmul_plain_apply none x w (constant ⟨2, ![M, N]⟩ .f32 0x00000000#32) r l
  rw [hz, zero_add] at h
  exact h

/-- A block of the result at an index: `act` of the row of x times the column of the weights. -/
theorem blockPay_apply (s : Ideal .f32) (x : FVec Ideal S256x4096 .fp8e5m2) (w : Vec Ideal S4096x1024 .bf16) (r : Fin 256) (l : Fin 1024) :
    blockPay s x w (ix2 r l) = act s (∑ k : Fin 4096, x (ix2 r k) * w (ix2 k l) : EReal) := by
  exact congrArg (act s) (matmul_zero (φ₂ := .bf16) (extf .bf16 x bitsLt_fp8e5m2_bf16) w r l)

/-- The reference's result at an index: `act` of the row of x times the column of the weights. -/
theorem ref_apply (x : Vec Ideal Cert.ReferenceIdeal.S4096x4096 .fp8e5m2) (w : Vec Ideal Cert.ReferenceIdeal.S4096x8192 .f32) (sx sw : Vec Ideal S1 .f32) (r : Fin 4096) (l : Fin 8192) :
    Cert.ReferenceIdeal.Value.G4 x w sx sw (ix2 r l)
      = act (FloatOps.mulf (sx (ix1 0)) (sw (ix1 0))) (∑ k : Fin 4096, x (ix2 r k) * w (ix2 k l) : EReal) := by
  have hs : (broadcastTo Cert.ReferenceIdeal.S4096x8192 (shapeCast Cert.ReferenceIdeal.S1x1 (mulf sx sw) Cert.ReferenceIdeal.Gen.shapeCasts_S1_S1x1)
      Cert.ReferenceIdeal.Gen.broadcasts_S1x1_S4096x8192 : FVec Ideal Cert.ReferenceIdeal.S4096x8192 .f32) (ix2 r l) = FloatOps.mulf (sx (ix1 0)) (sw (ix1 0)) := by
    have key (j : S1.Idx) : (mulf sx sw : FVec Ideal S1 .f32) j = FloatOps.mulf (sx (ix1 0)) (sw (ix1 0)) := by
      have hj : j = ix1 0 := by
        funext a; refine Fin.ext ?_
        match a with
        | ⟨0, _⟩ => have : (j 0).val < 1 := (j 0).isLt; show (j 0).val = 0; omega
      rw [hj]; rfl
    unfold broadcastTo shapeCast
    exact key _
  exact congrArg₂ act hs (matmul_zero (φ₂ := .f32) (extf .f32 x Cert.ReferenceIdeal.Gen.bitsLt_fp8e5m2_f32) w r l)

/-- Device `c`'s result is its block of columns of the reference's result, when its arguments are its blocks of the reference's. -/
theorem value (I : Inp Ideal) (x : Vec Ideal Cert.ReferenceIdeal.S4096x4096 .fp8e5m2) (w : Vec Ideal Cert.ReferenceIdeal.S4096x8192 .f32)
    (sx sw : Vec Ideal S1 .f32) (hx : ∀ c, I.x c = Layout.block S512x4096 Cert.ReferenceIdeal.S4096x4096 0 8 c x)
    (hw : ∀ c, I.w c = Layout.block S4096x1024 Cert.ReferenceIdeal.S4096x8192 1 8 c w) (hsx : ∀ c, I.sx c = sx) (hsw : ∀ c, I.sw c = sw) (c : Dev nD) :
    extf .f32 (outC I c) bitsLt_bf16_f32
      = Layout.block S4096x1024 Cert.ReferenceIdeal.S4096x8192 1 8 c (Cert.ReferenceIdeal.Value.G4 x w sx sw) := by
  funext i
  have h0 : (i 0).val < 4096 := (i 0).isLt
  have h1 : (i 1).val < 1024 := (i 1).isLt
  have hc : c.val < 8 := c.isLt
  have hi (h : Layout.Tiles S4096x1024 Cert.ReferenceIdeal.S4096x8192 1 8) : h.idx c i = ix2 (i 0 : Fin 4096) (⟨c.val * 1024 + (i 1).val, by omega⟩ : Fin 8192) := by
    funext a; refine Fin.ext ?_
    match a with
    | ⟨0, _⟩ => rfl
    | ⟨1, _⟩ => rfl
  rw [Layout.block_apply, hi]
  refine Eq.trans ?_ (ref_apply x w sx sw _ _).symm
  rw [← hsx c, ← hsw c]
  refine (blockPay_apply _ _ _ _ _).trans (congrArg (act _) (Finset.sum_congr rfl fun k _ => ?_))
  refine congrArg₂ (· * · : EReal → EReal → EReal) ?_ ?_
  · show I.x _ _ = _
    rw [hx, Layout.block_apply]
    refine congrArg x ?_
    funext a; refine Fin.ext ?_
    match a with
    | ⟨0, _⟩ => show (i 0).val / 512 * 512 + (256 * ((i 0).val / 256 % 2) + (i 0).val % 256) = (i 0).val; omega
    | ⟨1, _⟩ => rfl
  · show I.w _ _ = _
    rw [hw, Layout.block_apply]
    refine congrArg w ?_
    funext a; refine Fin.ext ?_
    match a with
    | ⟨0, _⟩ => rfl
    | ⟨1, _⟩ => rfl

end Cert.KernelIdeal.Proof

end
-- ==== Proof.Same.lean ====
/- The kernel as printed and the kernel as printed for exact arithmetic are one program. -/
module

public import proofs.«01_k».proof.Proof.Gen.Kernel
public import proofs.«01_k».proof.Proof.Gen.KernelIdeal

@[expose] public section

namespace Cert.KernelIdeal.Proof

open Idealize.ShloMosaic Idealize.ShloMosaic.TcCoe Idealize.SL.Sem

attribute [local instance] Cert.Kernel.Gen.facts Cert.KernelIdeal.Gen.facts

variable {F : FTy → Type} [FloatOps F]

/-- The two mains are the same. -/
theorem same_main : Cert.Kernel.main (F := F) = Cert.KernelIdeal.main (F := F) := rfl

set_option maxHeartbeats 4000000 in
/-- The two kernel bodies are the same. -/
theorem same_body : Cert.Kernel.cc0_body (F := F) = Cert.KernelIdeal.cc0_body (F := F) := rfl

/-- The two tables of bodies are the same. -/
theorem same_bodies : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    exact congrArg (fun f => f
      (win0_0.stage (s 0)) (Gen.facts.hstage0_0 0) (Memref.whole main_arg1) (Memref.isWhole_whole _) (win0_1.stage (s 1)) (Gen.facts.hstage0_1 0)
      (win0_2.stage (s 2)) (Gen.facts.hstage0_2 0) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10) (same_body (F := F))
  | ⟨_ + 1, h⟩, _ => exact absurd h (Nat.not_lt.2 (Nat.le_add_left _ _))

/-- The two tables of labels are the same. -/
theorem same_defs : Cert.Kernel.defs (F := F) = Cert.KernelIdeal.defs (F := F) := by
  unfold Cert.Kernel.defs Cert.KernelIdeal.defs
  exact congrArg (Pipeline.defs _) same_bodies

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Cert.Kernel
open Cert.KernelIdeal.Proof (run_main inp same_defs same_main)

/-- The kernel runs, leaves its arguments unchanged, and ends with every semaphore at zero. -/
theorem frame_kernel : Cert.quiescent_Kernel (hKernel := Cert.Kernel.Gen.facts) := by
  intro m ρ _
  refine (congrArg₂ (fun d p => θ_run d (onTc (τ := Cert.KernelIdeal.τ) p) ⟨m, fun _ => 0, ρ⟩ _) same_defs same_main).mpr ?_
  exact (θ_run Cert.KernelIdeal.defs _ _).mono (fun _ h => ⟨fun c => ⟨(h.1 c).1, (h.1 c).2.1, (h.1 c).2.2.1, (h.1 c).2.2.2.1⟩, h.2⟩) (run_main (F := Bits) m ρ)

/-- The same of the kernel at exact arithmetic. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩) (run_main (F := Ideal) m ρ)

/-- The same of the reference. -/
theorem frame_reference : Cert.quiescent_ReferenceIdeal (hReferenceIdeal := Cert.ReferenceIdeal.Gen.facts) := fun m ρ _ =>
  Cert.ReferenceIdeal.Gen.frame m ρ

/-- At exact arithmetic each device's result is its block of columns of the reference's result. -/
theorem value_claim : Cert.algebraic_KernelIdeal_ReferenceIdeal (hKernelIdeal := Cert.KernelIdeal.Gen.facts) (hReferenceIdeal := Cert.ReferenceIdeal.Gen.facts) :=
  fun m ρ m' ρ' _ hm => ⟨_,
    (θ_run Cert.KernelIdeal.defs _ _).mono (fun _ h c => ⟨(h.1 c).2.2.2.2.trans
        (Cert.KernelIdeal.Proof.value (inp m) _ _ _ _ (fun c => (hm c).1) (fun c => (hm c).2.1) (fun c => (hm c).2.2.1) (fun c => (hm c).2.2.2) c),
      (h.1 c).1, (h.1 c).2.1, (h.1 c).2.2.1, (h.1 c).2.2.2.1⟩) (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value_claim⟩

end Cert.Proof

end
